-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_len_fits [hPre_len_fits : Cert.Pre_len_fits.Facts] (m : (ℓ : Loc Cert.KernelIdeal.nD Cert.KernelIdeal.τ Cert.KernelIdeal.sig) → Buf (Elt Ideal) ℓ) : Prop :=
  ∀ c : Dev Cert.KernelIdeal.nD,
    (Cert.Pre_len_fits.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_len_fits [hPre_len_fits : Cert.Pre_len_fits.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_len_fits.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_len_fits [hKernelIdeal : Cert.KernelIdeal.Facts] [hPre_len_fits : Cert.Pre_len_fits.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_len_fits m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_len_fits [hReferenceIdeal : Cert.ReferenceIdeal.Facts] [hPre_len_fits : Cert.Pre_len_fits.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_len_fits m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  IdealRules.bf16_pair.Statement Cert.KernelIdeal.S8x2x128 Cert.KernelIdeal.S8x1x128
  ∧ IdealRules.bf16_pair.Statement Cert.KernelIdeal.S16x128 Cert.KernelIdeal.S8x128
  ∧ IdealRules.named_const.Statement Cert.KernelIdeal.κ "log2e_over_sqrt_d" .f32 0x3E0293EE#32 (((Real.sqrt 128)⁻¹ * (Real.log 2)⁻¹ : ℝ) : EReal)

def algebraic_KernelIdeal_ReferenceIdeal_pre_len_fits [hKernelIdeal : Cert.KernelIdeal.Facts] [hReferenceIdeal : Cert.ReferenceIdeal.Facts] [hPre_len_fits : Cert.Pre_len_fits.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_len_fits m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v7)) (v1 : (c : Dev Cert.KernelIdeal.nD) → Buf (Elt Ideal) ((c.tc : Thread Cert.KernelIdeal.nD Cert.KernelIdeal.τ).loc Cert.KernelIdeal.main_v8)) (v2 : (c : Dev Cert.KernelIdeal.nD) → Buf (Elt Ideal) ((c.tc : Thread Cert.KernelIdeal.nD Cert.KernelIdeal.τ).loc Cert.KernelIdeal.main_v9)) (v3 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_v8) = v1 c
          ∧ r.2.mem ((c.tc : Thread Cert.KernelIdeal.nD Cert.KernelIdeal.τ).loc Cert.KernelIdeal.main_v9) = v2 c
          ∧ r.2.mem ((c.tc : Thread Cert.KernelIdeal.nD Cert.KernelIdeal.τ).loc Cert.KernelIdeal.main_v12) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_v8_0) = v1 c
          ∧ r.2.mem ((c.tc : Thread Cert.ReferenceIdeal.nD Cert.ReferenceIdeal.τ).loc Cert.ReferenceIdeal.main_v24_0) = v2 c
          ∧ r.2.mem ((c.tc : Thread Cert.ReferenceIdeal.nD Cert.ReferenceIdeal.τ).loc Cert.ReferenceIdeal.main_v24_1) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_len_fits : Cert.Pre_len_fits.Facts),
    quiescent_Kernel (hKernel := hKernel)
    ∧ quiescent_KernelIdeal (hKernelIdeal := hKernelIdeal)
    ∧ quiescent_KernelIdeal_pre_len_fits (hKernelIdeal := hKernelIdeal) (hPre_len_fits := hPre_len_fits)
    ∧ quiescent_ReferenceIdeal (hReferenceIdeal := hReferenceIdeal)
    ∧ quiescent_ReferenceIdeal_pre_len_fits (hReferenceIdeal := hReferenceIdeal) (hPre_len_fits := hPre_len_fits)
    ∧ preserves_Kernel_KernelIdeal
    ∧ algebraic_KernelIdeal_ReferenceIdeal_pre_len_fits (hKernelIdeal := hKernelIdeal) (hReferenceIdeal := hReferenceIdeal) (hPre_len_fits := hPre_len_fits)
-- ==== Pre_len_fits.lean ====
abbrev S320x8x12x128 : Shape := ⟨4, ![320, 8, 12, 128]⟩
abbrev S320x8x2x128 : Shape := ⟨4, ![320, 8, 2, 128]⟩
abbrev S320x384x2x128 : Shape := ⟨4, ![320, 384, 2, 128]⟩
abbrev S320x2x128 : Shape := ⟨3, ![320, 2, 128]⟩
abbrev S320x384x2 : Shape := ⟨3, ![320, 384, 2]⟩
abbrev S320 : Shape := ⟨1, ![320]⟩
abbrev S_ : Shape := ⟨0, ![]⟩

class Facts : Prop where
  bcast_S_S320 : S_.BroadcastsInDim S320 (![] : Fin 0 → Fin S320.rank)

variable [Facts]

def fn {F : FTy → Type} [FloatOps F] (main_arg0 : FVec F S320x8x12x128 .bf16) (main_arg1 : FVec F S320x8x2x128 .bf16) (main_arg2 : FVec F S320x8x2x128 .bf16) (main_arg3 : IVec S320x384x2x128 8) (main_arg4 : FVec F S320x2x128 .f32) (main_arg5 : IVec S320x384x2x128 8) (main_arg6 : FVec F S320x384x2 .f32) (main_arg7 : IVec S320 32) : IVec S320 1 :=
  let main_c : IVec S_ 32 := constantI S_ 32 2147483631#32
  let main_v0 : IVec S320 32 := broadcastInDim S320 ![] bcast_S_S320 main_c
  let main_v1 : IVec S320 1 := cmpi .sle main_arg7 main_v0
  main_v1
-- ==== Kernel.lean ====
abbrev S320x8x12x128 : Shape := ⟨4, ![320, 8, 12, 128]⟩
abbrev S320x8x2x128 : Shape := ⟨4, ![320, 8, 2, 128]⟩
abbrev S320x384x2x128 : Shape := ⟨4, ![320, 384, 2, 128]⟩
abbrev S320x2x128 : Shape := ⟨3, ![320, 2, 128]⟩
abbrev S320x384x2 : Shape := ⟨3, ![320, 384, 2]⟩
abbrev S320 : Shape := ⟨1, ![320]⟩
abbrev S320x12x8x128 : Shape := ⟨4, ![320, 12, 8, 128]⟩
abbrev S320x96x128 : Shape := ⟨3, ![320, 96, 128]⟩
abbrev S320x2x384x128 : Shape := ⟨4, ![320, 2, 384, 128]⟩
abbrev S320x2x384 : Shape := ⟨3, ![320, 2, 384]⟩
abbrev S320x2x8x128 : Shape := ⟨4, ![320, 2, 8, 128]⟩
abbrev S4x96x128 : Shape := ⟨3, ![4, 96, 128]⟩
abbrev S4x8x2x128 : Shape := ⟨4, ![4, 8, 2, 128]⟩
abbrev S4x2x384x128 : Shape := ⟨4, ![4, 2, 384, 128]⟩
abbrev S4x2x128 : Shape := ⟨3, ![4, 2, 128]⟩
abbrev S4x2x384 : Shape := ⟨3, ![4, 2, 384]⟩
abbrev S4x2x8x128 : Shape := ⟨4, ![4, 2, 8, 128]⟩
abbrev S8x128 : Shape := ⟨2, ![8, 128]⟩
abbrev S48x128 : Shape := ⟨2, ![48, 128]⟩
abbrev S8x400 : Shape := ⟨2, ![8, 400]⟩
abbrev S1 : Shape := ⟨1, ![1]⟩
abbrev S1x8x2x128 : Shape := ⟨4, ![1, 8, 2, 128]⟩
abbrev S8x2x128 : Shape := ⟨3, ![8, 2, 128]⟩
abbrev S8x1x128 : Shape := ⟨3, ![8, 1, 128]⟩
abbrev S1x1x128 : Shape := ⟨3, ![1, 1, 128]⟩
abbrev S1x128 : Shape := ⟨2, ![1, 128]⟩
abbrev S1x1x8x128 : Shape := ⟨4, ![1, 1, 8, 128]⟩
abbrev S8 : Shape := ⟨1, ![8]⟩
abbrev S8x1 : Shape := ⟨2, ![8, 1]⟩
abbrev S16x128 : Shape := ⟨2, ![16, 128]⟩
abbrev S1x1x384x128 : Shape := ⟨4, ![1, 1, 384, 128]⟩
abbrev S384x128 : Shape := ⟨2, ![384, 128]⟩
abbrev S400x128 : Shape := ⟨2, ![400, 128]⟩
abbrev S400x256 : Shape := ⟨2, ![400, 256]⟩
abbrev S1x96x128 : Shape := ⟨3, ![1, 96, 128]⟩
abbrev S96x128 : Shape := ⟨2, ![96, 128]⟩
abbrev S48x256 : Shape := ⟨2, ![48, 256]⟩
abbrev S96x256 : Shape := ⟨2, ![96, 256]⟩
abbrev S96x400 : Shape := ⟨2, ![96, 400]⟩
abbrev S1x8x400 : Shape := ⟨3, ![1, 8, 400]⟩
abbrev S12x8x400 : Shape := ⟨3, ![12, 8, 400]⟩
abbrev S12x8 : Shape := ⟨2, ![12, 8]⟩
abbrev S12x8x1 : Shape := ⟨3, ![12, 8, 1]⟩
abbrev S2x48x400 : Shape := ⟨3, ![2, 48, 400]⟩
abbrev S2x16 : Shape := ⟨2, ![2, 16]⟩
abbrev S1x2x384 : Shape := ⟨3, ![1, 2, 384]⟩
abbrev S2x384 : Shape := ⟨2, ![2, 384]⟩
abbrev S2x400 : Shape := ⟨2, ![2, 400]⟩
abbrev S2x1x400 : Shape := ⟨3, ![2, 1, 400]⟩
abbrev S1x48x128 : Shape := ⟨3, ![1, 48, 128]⟩
abbrev S320x2x8x1 : Shape := ⟨4, ![320, 2, 8, 1]⟩
abbrev S320x2x8 : Shape := ⟨3, ![320, 2, 8]⟩
abbrev S320x8x2 : Shape := ⟨3, ![320, 8, 2]⟩

abbrev nBuf : Space → Nat
  | .hbm => 23
  | .vmem => 22
  | .smem => 1
  | _ => 0

abbrev bufTy : (tb : Table) → Fin (tcTables nBuf tb) → BufTy
  | .hbm, ⟨0, _⟩ => ⟨S320x8x12x128, .bf16⟩
  | .hbm, ⟨1, _⟩ => ⟨S320x8x2x128, .bf16⟩
  | .hbm, ⟨2, _⟩ => ⟨S320x8x2x128, .bf16⟩
  | .hbm, ⟨3, _⟩ => ⟨S320x384x2x128, .i8⟩
  | .hbm, ⟨4, _⟩ => ⟨S320x2x128, .f32⟩
  | .hbm, ⟨5, _⟩ => ⟨S320x384x2x128, .i8⟩
  | .hbm, ⟨6, _⟩ => ⟨S320x384x2, .f32⟩
  | .hbm, ⟨7, _⟩ => ⟨S320x12x8x128, .bf16⟩
  | .hbm, ⟨8, _⟩ => ⟨S320x96x128, .bf16⟩
  | .hbm, ⟨9, _⟩ => ⟨S320x2x384x128, .i8⟩
  | .hbm, ⟨10, _⟩ => ⟨S320x2x384x128, .i8⟩
  | .hbm, ⟨11, _⟩ => ⟨S320x2x384, .f32⟩
  | .hbm, ⟨12, _⟩ => ⟨S320x96x128, .bf16⟩
  | .hbm, ⟨13, _⟩ => ⟨S320x2x8x128, .i8⟩
  | .hbm, ⟨14, _⟩ => ⟨S320x2x8x128, .i8⟩
  | .hbm, ⟨15, _⟩ => ⟨S320x2x8x128, .f32⟩
  | .hbm, ⟨16, _⟩ => ⟨S320x12x8x128, .bf16⟩
  | .hbm, ⟨17, _⟩ => ⟨S320x8x12x128, .bf16⟩
  | .hbm, ⟨18, _⟩ => ⟨S320x8x2x128, .i8⟩
  | .hbm, ⟨19, _⟩ => ⟨S320x8x2x128, .i8⟩
  | .hbm, ⟨20, _⟩ => ⟨S320x2x8x1, .f32⟩
  | .hbm, ⟨21, _⟩ => ⟨S320x2x8, .f32⟩
  | .hbm, ⟨22, _⟩ => ⟨S320x8x2, .f32⟩
  | .local _ .vmem, ⟨0, _⟩ => ⟨S4x96x128, .bf16⟩
  | .local _ .vmem, ⟨1, _⟩ => ⟨S4x96x128, .bf16⟩
  | .local _ .vmem, ⟨2, _⟩ => ⟨S4x8x2x128, .bf16⟩
  | .local _ .vmem, ⟨3, _⟩ => ⟨S4x8x2x128, .bf16⟩
  | .local _ .vmem, ⟨4, _⟩ => ⟨S4x8x2x128, .bf16⟩
  | .local _ .vmem, ⟨5, _⟩ => ⟨S4x8x2x128, .bf16⟩
  | .local _ .vmem, ⟨6, _⟩ => ⟨S4x2x384x128, .i8⟩
  | .local _ .vmem, ⟨7, _⟩ => ⟨S4x2x384x128, .i8⟩
  | .local _ .vmem, ⟨8, _⟩ => ⟨S4x2x128, .f32⟩
  | .local _ .vmem, ⟨9, _⟩ => ⟨S4x2x128, .f32⟩
  | .local _ .vmem, ⟨10, _⟩ => ⟨S4x2x384x128, .i8⟩
  | .local _ .vmem, ⟨11, _⟩ => ⟨S4x2x384x128, .i8⟩
  | .local _ .vmem, ⟨12, _⟩ => ⟨S4x2x384, .f32⟩
  | .local _ .vmem, ⟨13, _⟩ => ⟨S4x2x384, .f32⟩
  | .local _ .vmem, ⟨14, _⟩ => ⟨S4x96x128, .bf16⟩
  | .local _ .vmem, ⟨15, _⟩ => ⟨S4x96x128, .bf16⟩
  | .local _ .vmem, ⟨16, _⟩ => ⟨S4x2x8x128, .i8⟩
  | .local _ .vmem, ⟨17, _⟩ => ⟨S4x2x8x128, .i8⟩
  | .local _ .vmem, ⟨18, _⟩ => ⟨S4x2x8x128, .i8⟩
  | .local _ .vmem, ⟨19, _⟩ => ⟨S4x2x8x128, .i8⟩
  | .local _ .vmem, ⟨20, _⟩ => ⟨S4x2x8x128, .f32⟩
  | .local _ .vmem, ⟨21, _⟩ => ⟨S4x2x8x128, .f32⟩
  | .local _ .smem, ⟨0, _⟩ => ⟨S320, .i32⟩
  | _, _ => ⟨S320x8x12x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_v5_2 : Ref sig .tc := ⟨.hbm, 14, rfl⟩
abbrev main_v5_3 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_arg7 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [BitOps F]

abbrev grid0 : Pipeline.Grid := ⟨1, ![80], ![false]⟩

abbrev pre0 : Pipeline.Prefetch sig := ⟨1, ![main_arg7.idx], fun | 0 => main_arg7.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) (c0_i32 : BitVec 32) : Fin 1 → Nat :=
  let arg0 : BitVec 32 := BitVec.ofNat 32 (i 0).val
  let c4_i32 : BitVec 32 := 4#32
  let v4 : BitVec 32 := Scalar.muli arg0 c4_i32
  let v5 : BitVec 32 := Scalar.addi v4 c0_i32
  let v6 : Index := Scalar.indexCast v5
  ![v6.toNat]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_9 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_10 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S4x96x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x8x2x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x8x2x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x2x384x128 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x2x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x2x384x128 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4x2x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4x96x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4x2x8x128 .i8 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S4x2x8x128 .i8 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S4x2x8x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== KernelIdeal.lean ====
variable {F : FTy → Type} [FloatOps F] [Named F]
def κ : String → Option EReal := fun
  | "log2e_over_sqrt_d" => some (((Real.sqrt 128)⁻¹ * (Real.log 2)⁻¹ : ℝ) : EReal)
  | _ => none
-- ==== ReferenceIdeal.lean ====
abbrev S320x8x12x128 : Shape := ⟨4, ![320, 8, 12, 128]⟩
abbrev S320x8x2x128 : Shape := ⟨4, ![320, 8, 2, 128]⟩
abbrev S320x384x2x128 : Shape := ⟨4, ![320, 384, 2, 128]⟩
abbrev S320x2x128 : Shape := ⟨3, ![320, 2, 128]⟩
abbrev S320x384x2 : Shape := ⟨3, ![320, 384, 2]⟩
abbrev S320 : Shape := ⟨1, ![320]⟩
abbrev S320x1x2x128 : Shape := ⟨4, ![320, 1, 2, 128]⟩
abbrev S_ : Shape := ⟨0, ![]⟩
abbrev S320x8x2 : Shape := ⟨3, ![320, 8, 2]⟩
abbrev S320x8x2x1 : Shape := ⟨4, ![320, 8, 2, 1]⟩
abbrev S320x8x2x6x128 : Shape := ⟨5, ![320, 8, 2, 6, 128]⟩
abbrev S320x2x384x8x6 : Shape := ⟨5, ![320, 2, 384, 8, 6]⟩
abbrev S320x8x2x6x384 : Shape := ⟨5, ![320, 8, 2, 6, 384]⟩
abbrev S320x2x8x8x6 : Shape := ⟨5, ![320, 2, 8, 8, 6]⟩
abbrev S320x8x2x6x8 : Shape := ⟨5, ![320, 8, 2, 6, 8]⟩
abbrev S384 : Shape := ⟨1, ![384]⟩
abbrev S1x384 : Shape := ⟨2, ![1, 384]⟩
abbrev S320x1 : Shape := ⟨2, ![320, 1]⟩
abbrev S320x384 : Shape := ⟨2, ![320, 384]⟩
abbrev S320x1x1x1x384 : Shape := ⟨5, ![320, 1, 1, 1, 384]⟩
abbrev S8 : Shape := ⟨1, ![8]⟩
abbrev S1x8 : Shape := ⟨2, ![1, 8]⟩
abbrev S8x1 : Shape := ⟨2, ![8, 1]⟩
abbrev S8x8 : Shape := ⟨2, ![8, 8]⟩
abbrev S1x8x1x1x8 : Shape := ⟨5, ![1, 8, 1, 1, 8]⟩
abbrev S320x8x2x6 : Shape := ⟨4, ![320, 8, 2, 6]⟩
abbrev S320x8x2x6x1 : Shape := ⟨5, ![320, 8, 2, 6, 1]⟩
abbrev S320x2x384 : Shape := ⟨3, ![320, 2, 384]⟩
abbrev S320x1x2x1x384 : Shape := ⟨5, ![320, 1, 2, 1, 384]⟩
abbrev S320x2x128x8x6 : Shape := ⟨5, ![320, 2, 128, 8, 6]⟩

abbrev nBuf : Space → Nat
  | .hbm => 140
  | .vmem => 0
  | .smem => 0
  | _ => 0

abbrev hbmTy0_0 (i : Nat) : BufTy := match i % 128 with
  | 0 => ⟨S320x8x12x128, .bf16⟩
  | 1 => ⟨S320x8x2x128, .bf16⟩
  | 2 => ⟨S320x8x2x128, .bf16⟩
  | 3 => ⟨S320x384x2x128, .i8⟩
  | 4 => ⟨S320x2x128, .f32⟩
  | 5 => ⟨S320x384x2x128, .i8⟩
  | 6 => ⟨S320x384x2, .f32⟩
  | 7 => ⟨S320, .i32⟩
  | 8 => ⟨S320x8x2x128, .f32⟩
  | 9 => ⟨S320x1x2x128, .f32⟩
  | 10 => ⟨S320x8x2x128, .f32⟩
  | 11 => ⟨S320x8x2x128, .f32⟩
  | 12 => ⟨S320x8x2x128, .f32⟩
  | 13 => ⟨S_, .f32⟩
  | 14 => ⟨S_, .f32⟩
  | 15 => ⟨S_, .f32⟩
  | 16 => ⟨S320x8x2x128, .f32⟩
  | 17 => ⟨S320x8x2x128, .f32⟩
  | 18 => ⟨S_, .f32⟩
  | 19 => ⟨S320x8x2x128, .f32⟩
  | 20 => ⟨S320x8x2x128, .f32⟩
  | 21 => ⟨S320x8x2x128, .i32⟩
  | 22 => ⟨S320x8x2x128, .i8⟩
  | 23 => ⟨S320x8x2x128, .i8⟩
  | 24 => ⟨S320x2x128, .f32⟩
  | 25 => ⟨S320x8x2x128, .f32⟩
  | 26 => ⟨S320x8x2x128, .f32⟩
  | 27 => ⟨S_, .f32⟩
  | 28 => ⟨S320x8x2, .f32⟩
  | 29 => ⟨S_, .f32⟩
  | 30 => ⟨S320x8x2, .f32⟩
  | 31 => ⟨S320x8x2, .i1⟩
  | 32 => ⟨S_, .f32⟩
  | 33 => ⟨S320x8x2, .f32⟩
  | 34 => ⟨S320x8x2, .f32⟩
  | 35 => ⟨S_, .f32⟩
  | 36 => ⟨S_, .f32⟩
  | 37 => ⟨S320x8x2, .f32⟩
  | 38 => ⟨S320x8x2, .f32⟩
  | 39 => ⟨S320x8x2x1, .f32⟩
  | 40 => ⟨S320x8x2x128, .f32⟩
  | 41 => ⟨S320x8x2x128, .f32⟩
  | 42 => ⟨S320x8x2x128, .f32⟩
  | 43 => ⟨S_, .f32⟩
  | 44 => ⟨S_, .f32⟩
  | 45 => ⟨S_, .f32⟩
  | 46 => ⟨S320x8x2x128, .f32⟩
  | 47 => ⟨S320x8x2x128, .f32⟩
  | 48 => ⟨S_, .f32⟩
  | 49 => ⟨S320x8x2x128, .f32⟩
  | 50 => ⟨S320x8x2x128, .f32⟩
  | 51 => ⟨S320x8x2x128, .i32⟩
  | 52 => ⟨S320x8x2x128, .i8⟩
  | 53 => ⟨S320x8x2x128, .i8⟩
  | 54 => ⟨S320x8x2, .f32⟩
  | 55 => ⟨S320x8x2x6x128, .bf16⟩
  | 56 => ⟨S320x384x2x128, .i32⟩
  | 57 => ⟨S320x384x2x128, .bf16⟩
  | 58 => ⟨S320x2x128, .bf16⟩
  | 59 => ⟨S320x1x2x128, .bf16⟩
  | 60 => ⟨S320x384x2x128, .bf16⟩
  | 61 => ⟨S320x384x2x128, .bf16⟩
  | 62 => ⟨S320x2x384x8x6, .f32⟩
  | 63 => ⟨S320x8x2x6x384, .f32⟩
  | 64 => ⟨S_, .f32⟩
  | 65 => ⟨S_, .f32⟩
  | 66 => ⟨S320x8x2x6x384, .f32⟩
  | 67 => ⟨S320x8x2x6x384, .f32⟩
  | 68 => ⟨S320x2x8x8x6, .f32⟩
  | 69 => ⟨S320x8x2x6x8, .f32⟩
  | 70 => ⟨S_, .f32⟩
  | 71 => ⟨S_, .f32⟩
  | 72 => ⟨S320x8x2x6x8, .f32⟩
  | 73 => ⟨S320x8x2x6x8, .f32⟩
  | 74 => ⟨S384, .i32⟩
  | 75 => ⟨S1x384, .i32⟩
  | 76 => ⟨S320x1, .i32⟩
  | 77 => ⟨S320x384, .i32⟩
  | 78 => ⟨S320x384, .i32⟩
  | 79 => ⟨S320x384, .i1⟩
  | 80 => ⟨S320x1x1x1x384, .i1⟩
  | 81 => ⟨S8, .i32⟩
  | 82 => ⟨S1x8, .i32⟩
  | 83 => ⟨S8, .i32⟩
  | 84 => ⟨S8x1, .i32⟩
  | 85 => ⟨S8x8, .i32⟩
  | 86 => ⟨S8x8, .i32⟩
  | 87 => ⟨S8x8, .i1⟩
  | 88 => ⟨S1x8x1x1x8, .i1⟩
  | 89 => ⟨S_, .f32⟩
  | 90 => ⟨S_, .f32⟩
  | 91 => ⟨S320x8x2x6x384, .i1⟩
  | 92 => ⟨S320x8x2x6x384, .f32⟩
  | 93 => ⟨S320x8x2x6x384, .f32⟩
  | 94 => ⟨S_, .f32⟩
  | 95 => ⟨S_, .f32⟩
  | 96 => ⟨S320x8x2x6x8, .i1⟩
  | 97 => ⟨S320x8x2x6x8, .f32⟩
  | 98 => ⟨S320x8x2x6x8, .f32⟩
  | 99 => ⟨S_, .f32⟩
  | 100 => ⟨S320x8x2x6, .f32⟩
  | 101 => ⟨S_, .f32⟩
  | 102 => ⟨S320x8x2x6, .f32⟩
  | 103 => ⟨S320x8x2x6, .f32⟩
  | 104 => ⟨S320x8x2x6x1, .f32⟩
  | 105 => ⟨S320x8x2x6x384, .f32⟩
  | 106 => ⟨S320x8x2x6x384, .f32⟩
  | 107 => ⟨S320x8x2x6x384, .f32⟩
  | 108 => ⟨S320x8x2x6x8, .f32⟩
  | 109 => ⟨S320x8x2x6x8, .f32⟩
  | 110 => ⟨S320x8x2x6x8, .f32⟩
  | 111 => ⟨S_, .f32⟩
  | 112 => ⟨S320x8x2x6, .f32⟩
  | 113 => ⟨S320x8x2x6x1, .f32⟩
  | 114 => ⟨S_, .f32⟩
  | 115 => ⟨S320x8x2x6, .f32⟩
  | 116 => ⟨S320x8x2x6x1, .f32⟩
  | 117 => ⟨S320x8x2x6x1, .f32⟩
  | 118 => ⟨S_, .f32⟩
  | 119 => ⟨S320x8x2x6x1, .f32⟩
  | 120 => ⟨S320x8x2x6x1, .f32⟩
  | 121 => ⟨S320x8x2x6x384, .f32⟩
  | 122 => ⟨S320x8x2x6x384, .f32⟩
  | 123 => ⟨S320x8x2x6x8, .f32⟩
  | 124 => ⟨S320x8x2x6x8, .f32⟩
  | 125 => ⟨S320x2x384, .f32⟩
  | 126 => ⟨S320x1x2x1x384, .f32⟩
  | 127 => ⟨S320x8x2x6x384, .f32⟩
  | _ => ⟨S320x8x12x128, .bf16⟩

abbrev hbmTy0_1 (i : Nat) : BufTy := match i % 128 with
  | 0 => ⟨S320x8x2x6x384, .f32⟩
  | 1 => ⟨S320x8x2x6x384, .bf16⟩
  | 2 => ⟨S320x384x2x128, .i32⟩
  | 3 => ⟨S320x384x2x128, .bf16⟩
  | 4 => ⟨S320x2x128x8x6, .f32⟩
  | 5 => ⟨S320x8x2x6x128, .f32⟩
  | 6 => ⟨S320x8x2x6x8, .bf16⟩
  | 7 => ⟨S320x2x128x8x6, .f32⟩
  | 8 => ⟨S320x8x2x6x128, .f32⟩
  | 9 => ⟨S320x8x2x6x128, .f32⟩
  | 10 => ⟨S320x8x2x6x128, .bf16⟩
  | 11 => ⟨S320x8x12x128, .bf16⟩
  | _ => ⟨S320x8x12x128, .bf16⟩

abbrev hbmTy (i : Nat) : BufTy := match i / 128 with
  | 0 => hbmTy0_0 i
  | 1 => hbmTy0_1 i
  | _ => ⟨S320x8x12x128, .bf16⟩

abbrev bufTy : (tb : Table) → Fin (tcTables nBuf tb) → BufTy
  | .hbm, ⟨i, _⟩ => hbmTy i
  | _, _ => ⟨S320x8x12x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_cst_0 : Ref sig .tc := ⟨.hbm, 14, rfl⟩
abbrev main_call1_v0 : Ref sig .tc := ⟨.hbm, 15, rfl⟩
abbrev main_call1_v1 : Ref sig .tc := ⟨.hbm, 16, rfl⟩
abbrev main_call1_v2 : Ref sig .tc := ⟨.hbm, 17, rfl⟩
abbrev main_call1_v3 : Ref sig .tc := ⟨.hbm, 18, rfl⟩
abbrev main_call1_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8_0 : Ref sig .tc := ⟨.hbm, 23, rfl⟩
abbrev main_v8_1 : Ref sig .tc := ⟨.hbm, 24, rfl⟩
abbrev main_v9 : Ref sig .tc := ⟨.hbm, 25, rfl⟩
abbrev main_v10 : Ref sig .tc := ⟨.hbm, 26, rfl⟩
abbrev main_cst_1 : Ref sig .tc := ⟨.hbm, 27, rfl⟩
abbrev main_v11 : Ref sig .tc := ⟨.hbm, 28, rfl⟩
abbrev main_cst_2 : Ref sig .tc := ⟨.hbm, 29, rfl⟩
abbrev main_v12 : Ref sig .tc := ⟨.hbm, 30, rfl⟩
abbrev main_v13 : Ref sig .tc := ⟨.hbm, 31, rfl⟩
abbrev main_cst_3 : Ref sig .tc := ⟨.hbm, 32, rfl⟩
abbrev main_v14 : Ref sig .tc := ⟨.hbm, 33, rfl⟩
abbrev main_v15 : Ref sig .tc := ⟨.hbm, 34, rfl⟩
abbrev main_cst_4 : Ref sig .tc := ⟨.hbm, 35, rfl⟩
abbrev main_call2_v0 : Ref sig .tc := ⟨.hbm, 36, rfl⟩
abbrev main_call2_v1 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_cst_5 : Ref sig .tc := ⟨.hbm, 43, rfl⟩
abbrev main_cst_6 : Ref sig .tc := ⟨.hbm, 44, rfl⟩
abbrev main_call4_v0 : Ref sig .tc := ⟨.hbm, 45, rfl⟩
abbrev main_call4_v1 : Ref sig .tc := ⟨.hbm, 46, rfl⟩
abbrev main_call4_v2 : Ref sig .tc := ⟨.hbm, 47, rfl⟩
abbrev main_call4_v3 : Ref sig .tc := ⟨.hbm, 48, rfl⟩
abbrev main_call4_v4 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24_0 : Ref sig .tc := ⟨.hbm, 53, rfl⟩
abbrev main_v24_1 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_cst_7 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_cst_8 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_cst_9 : Ref sig .tc := ⟨.hbm, 89, rfl⟩
abbrev main_call5_v0 : Ref sig .tc := ⟨.hbm, 90, rfl⟩
abbrev main_call5_v1 : Ref sig .tc := ⟨.hbm, 91, rfl⟩
abbrev main_call5_v2 : Ref sig .tc := ⟨.hbm, 92, rfl⟩
abbrev main_v57 : Ref sig .tc := ⟨.hbm, 93, rfl⟩
abbrev main_cst_10 : Ref sig .tc := ⟨.hbm, 94, rfl⟩
abbrev main_call6_v0 : Ref sig .tc := ⟨.hbm, 95, rfl⟩
abbrev main_call6_v1 : Ref sig .tc := ⟨.hbm, 96, rfl⟩
abbrev main_call6_v2 : Ref sig .tc := ⟨.hbm, 97, rfl⟩
abbrev main_v58 : Ref sig .tc := ⟨.hbm, 98, rfl⟩
abbrev main_cst_11 : Ref sig .tc := ⟨.hbm, 99, rfl⟩
abbrev main_v59 : Ref sig .tc := ⟨.hbm, 100, rfl⟩
abbrev main_cst_12 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_cst_13 : Ref sig .tc := ⟨.hbm, 111, rfl⟩
abbrev main_v69 : Ref sig .tc := ⟨.hbm, 112, rfl⟩
abbrev main_v70 : Ref sig .tc := ⟨.hbm, 113, rfl⟩
abbrev main_cst_14 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩
abbrev main_cst_15 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_v81 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩

abbrev nD : Nat := 1
abbrev τ : Topo := Topo.v7x

variable {F : FTy → Type} [FloatOps F]
-- ==== Proof.Row.lean ====
/- UNTRUSTED. One row of the attention over extended reals: the kernel's form (one softmax in base two over 400 lanes,
   the eight new keys, eight empty lanes, the 384 cached keys) and the reference's form (two softmax pieces in base e)
   are one number. Also the float constants both programs spell, and the cut of a clipped code to eight bits. -/
module

public import Idealize.ShloMosaic.PureOps.Ideal
public import Idealize.ShloMosaic.Lib.Pointwise

@[expose] public section

noncomputable section

namespace Cert.Row

open Idealize.ShloMosaic

/-! ## The constants -/

/-- The pattern of `-∞` denotes `⊥`. -/
theorem ofBits_bot : Ideal.ofBits .f32 0xFF800000#32 = ⊥ := by
  simp [Ideal.ofBits, Ideal.ieee]

/-- The pattern of `127.0` denotes 127. -/
theorem ofBits_127 : Ideal.ofBits .f32 0x42FE0000#32 = ((127 : ℝ) : EReal) := by
  simp [Ideal.ofBits, Ideal.ieee, -EReal.coe_mul]; norm_num

/-- The pattern of `-127.0` denotes −127. -/
theorem ofBits_neg_127 : Ideal.ofBits .f32 0xC2FE0000#32 = ((-127 : ℝ) : EReal) := by
  simp [Ideal.ofBits, Ideal.ieee, -EReal.coe_mul, -EReal.coe_neg]; norm_num

/-- The pattern of `128.0` denotes 128. -/
theorem ofBits_128 : Ideal.ofBits .f32 0x43000000#32 = ((128 : ℝ) : EReal) := by
  simp [Ideal.ofBits, Ideal.ieee, -EReal.coe_mul]; norm_num

/-! ## Masks -/

/-- Whether a signed word lies below another: the mask's bit. -/
theorem select_slt {α : Type} (a b : BitVec 32) (x y : α) :
    Scalar.select (IntOp.cmpi .slt a b) x y = if a.toInt < b.toInt then x else y := by
  by_cases h : a.toInt < b.toInt <;> simp [Scalar.select, IntOp.cmpi, BitVec.slt, h]

/-- The mask's bit of a signed comparison by `≤`. -/
theorem select_sle {α : Type} (a b : BitVec 32) (x y : α) :
    Scalar.select (IntOp.cmpi .sle a b) x y = if a.toInt ≤ b.toInt then x else y := by
  by_cases h : a.toInt ≤ b.toInt <;> simp [Scalar.select, IntOp.cmpi, BitVec.sle, h]

/-! ## A clipped code -/

/-- A value clipped to [−127, 127] has the same eight-bit code whether it is converted to eight bits at once, or to
    thirty-two bits and cut. -/
theorem code_cut (x : EReal) :
    Ideal.fptosi 8 (min ((127 : ℝ) : EReal) (max ((-127 : ℝ) : EReal) x))
      = (Ideal.fptosi 32 (min ((127 : ℝ) : EReal) (max ((-127 : ℝ) : EReal) x))).setWidth 8 := by
  obtain ⟨r, hr, h1, h2⟩ : ∃ r : ℝ, min ((127 : ℝ) : EReal) (max ((-127 : ℝ) : EReal) x) = (r : EReal)
      ∧ -127 ≤ r ∧ r ≤ 127 := by
    induction x with
    | bot => exact ⟨-127, by rw [max_eq_left bot_le, min_eq_right (by exact_mod_cast (by norm_num : (-127:ℝ) ≤ 127))],
        by norm_num, by norm_num⟩
    | top => exact ⟨127, by rw [max_eq_right le_top, min_eq_left le_top], by norm_num, by norm_num⟩
    | coe y => exact ⟨min 127 (max (-127) y), by
        rw [EReal.coe_strictMono.monotone.map_min, EReal.coe_strictMono.monotone.map_max],
        le_min (by norm_num) (le_max_left _ _), min_le_left _ _⟩
  rw [hr]
  unfold Ideal.fptosi Ideal.toIntClamped
  set t : ℤ := if 0 ≤ r then ⌊r⌋ else ⌈r⌉ with ht
  have hb : -127 ≤ t ∧ t ≤ 127 := by
    rw [ht]; split
    · exact ⟨Int.le_floor.2 (by exact_mod_cast h1), by
        have := Int.floor_le_floor h2; rw [show (127:ℝ) = ((127:ℤ):ℝ) by norm_num, Int.floor_intCast] at this; exact this⟩
    · exact ⟨by
        have := Int.ceil_le_ceil h1; rw [show (-127:ℝ) = ((-127:ℤ):ℝ) by norm_num, Int.ceil_intCast] at this; exact this,
        Int.ceil_le.2 (by exact_mod_cast h2)⟩
  obtain ⟨hb1, hb2⟩ := hb
  have e1 : max (-((2 ^ (8 - 1) : ℕ) : ℤ)) (min (((2 ^ (8 - 1) : ℕ) : ℤ) - 1) t) = t := by norm_num; omega
  have e2 : max (-((2 ^ (32 - 1) : ℕ) : ℤ)) (min (((2 ^ (32 - 1) : ℕ) : ℤ) - 1) t) = t := by norm_num; omega
  show BitVec.ofInt 8 (max _ (min _ t)) = (BitVec.ofInt 32 (max _ (min _ t))).setWidth 8
  rw [e1, e2]
  apply BitVec.eq_of_toNat_eq
  rw [BitVec.toNat_setWidth, BitVec.toNat_ofInt, BitVec.toNat_ofInt]
  norm_num
  omega

/-! ## Base two and base e -/

/-- `1 / log 2`, the factor between the two exponents. -/
def k2 : EReal := (((Real.log 2)⁻¹ : ℝ) : EReal)

/-- The inverse of `log 2` is positive. -/
theorem log2_inv_pos : (0 : ℝ) < (Real.log 2)⁻¹ := inv_pos.2 (Real.log_pos (by norm_num))

/-- The base change keeps `⊥`. -/
theorem bot_mul_k2 : (⊥ : EReal) * k2 = ⊥ := EReal.bot_mul_coe_of_pos log2_inv_pos
/-- The base change keeps `⊤`. -/
theorem top_mul_k2 : (⊤ : EReal) * k2 = ⊤ := EReal.top_mul_coe_of_pos log2_inv_pos

/-- `2 ^ (x / log 2) = e ^ x` on every extended real. -/
theorem exp2_mul_k2 (x : EReal) : Ideal.exp2 (x * k2) = Ideal.exp x := by
  induction x with
  | bot => rw [bot_mul_k2]; rfl
  | top => rw [top_mul_k2]; rfl
  | coe r =>
    rw [k2, ← EReal.coe_mul, Ideal.exp2_coe, Ideal.exp_coe]
    congr 1
    show (2 : ℝ) ^ (r * (Real.log 2)⁻¹) = _
    rw [Real.rpow_def_of_pos (by norm_num)]
    congr 1
    have : Real.log 2 ≠ 0 := (Real.log_pos (by norm_num)).ne'
    field_simp

/-- The factor comes out of a difference. -/
theorem sub_mul_k2 (x y : EReal) : x * k2 - y * k2 = (x - y) * k2 := by
  induction x with
  | bot => rw [bot_mul_k2, EReal.bot_sub, EReal.bot_sub, bot_mul_k2]
  | top =>
    induction y with
    | bot => rw [top_mul_k2, bot_mul_k2, EReal.top_sub_bot, top_mul_k2]
    | top => rw [top_mul_k2, EReal.sub_top, bot_mul_k2]
    | coe r => rw [top_mul_k2, k2, ← EReal.coe_mul, EReal.top_sub_coe, EReal.top_sub_coe, ← k2, top_mul_k2]
  | coe q =>
    induction y with
    | bot => rw [bot_mul_k2, k2, ← EReal.coe_mul, EReal.coe_sub_bot, EReal.coe_sub_bot, ← k2, top_mul_k2]
    | top => rw [top_mul_k2, EReal.sub_top, EReal.sub_top, bot_mul_k2]
    | coe r => rw [k2]; norm_cast; ring

/-- The base change is monotone. -/
theorem mul_k2_mono : Monotone (fun x : EReal => x * k2) := fun a b h =>
  mul_le_mul_of_nonneg_right h (EReal.coe_nonneg.2 log2_inv_pos.le)

/-- The factor comes out of a maximum. -/
theorem fold_mul_k2 {n : ℕ} (f : Fin n → EReal) :
    Finset.univ.fold max ⊥ (fun i => f i * k2) = Finset.univ.fold max ⊥ f * k2 := by
  have h := Finset.fold_hom (op := max) (op' := max) (s := (Finset.univ : Finset (Fin n))) (b := (⊥ : EReal)) (f := f)
    (m := fun x : EReal => x * k2) (fun x y => mul_k2_mono.map_max)
  rw [← h]; simp only [bot_mul_k2]

/-! ## The two rows -/

/-- The reference's row: cached scores `C` with their scales `vs` and values `vc`, new scores `N` with values `vn`. -/
def refRow (C : Fin 384 → EReal) (N : Fin 8 → EReal) (vs vc : Fin 384 → EReal) (vn : Fin 8 → EReal) : EReal :=
  (∑ t, vc t * (Ideal.exp (C t - max (Finset.univ.fold max ⊥ C) (Finset.univ.fold max ⊥ N))
      * Ideal.div 1 ((∑ t, Ideal.exp (C t - max (Finset.univ.fold max ⊥ C) (Finset.univ.fold max ⊥ N)))
        + ∑ j, Ideal.exp (N j - max (Finset.univ.fold max ⊥ C) (Finset.univ.fold max ⊥ N))) * vs t))
  + ∑ j, vn j * (Ideal.exp (N j - max (Finset.univ.fold max ⊥ C) (Finset.univ.fold max ⊥ N))
      * Ideal.div 1 ((∑ t, Ideal.exp (C t - max (Finset.univ.fold max ⊥ C) (Finset.univ.fold max ⊥ N)))
        + ∑ j, Ideal.exp (N j - max (Finset.univ.fold max ⊥ C) (Finset.univ.fold max ⊥ N))))

/-- The kernel's row: masked scores `L` over 400 lanes, the cached lanes' scales `vs`, the lanes' values `v`. -/
def kerRow (L : Fin 400 → EReal) (vs : Fin 384 → EReal) (v : Fin 400 → EReal) : EReal :=
  (∑ x : Fin 16, Ideal.exp2 (L ⟨x.val, by omega⟩ - Finset.univ.fold max ⊥ L)
      * Ideal.div 1 (∑ k, Ideal.exp2 (L k - Finset.univ.fold max ⊥ L)) * v ⟨x.val, by omega⟩)
  + ∑ x : Fin 384, Ideal.exp2 (L ⟨16 + x.val, by omega⟩ - Finset.univ.fold max ⊥ L)
      * Ideal.div 1 (∑ k, Ideal.exp2 (L k - Finset.univ.fold max ⊥ L)) * vs x * v ⟨16 + x.val, by omega⟩

/-- The sum over 400 lanes is the sum over the new, the empty and the cached lanes. -/
theorem sum_lanes (f : Fin 400 → EReal) : ∑ k, f k = (∑ j : Fin 8, f ⟨j.val, by omega⟩)
    + (∑ j : Fin 8, f ⟨8 + j.val, by omega⟩) + ∑ t : Fin 384, f ⟨16 + t.val, by omega⟩ := by
  have h1 := Fin.sum_univ_add (a := 16) (b := 384) f
  have h2 := Fin.sum_univ_add (a := 8) (b := 8) (fun i : Fin (8 + 8) => f (Fin.castAdd 384 i))
  rw [h1, h2]; rfl

/-- Where the lanes hold the new scores, nothing, and the cached scores, each over `log 2`, and the values are the new
    and the cached ones, the kernel's row is the reference's. -/
theorem kerRow_eq (L v : Fin 400 → EReal) (C vs vc : Fin 384 → EReal) (N vn : Fin 8 → EReal)
    (hN : ∀ j : Fin 8, L ⟨j.val, by omega⟩ = N j * k2) (hZ : ∀ j : Fin 8, L ⟨8 + j.val, by omega⟩ = ⊥)
    (hC : ∀ t : Fin 384, L ⟨16 + t.val, by omega⟩ = C t * k2)
    (hvn : ∀ j : Fin 8, v ⟨j.val, by omega⟩ = vn j) (hvc : ∀ t : Fin 384, v ⟨16 + t.val, by omega⟩ = vc t) :
    kerRow L vs v = refRow C N vs vc vn := by
  have hM : Finset.univ.fold max ⊥ L
      = max (Finset.univ.fold max ⊥ C) (Finset.univ.fold max ⊥ N) * k2 := by
    rw [mul_k2_mono.map_max (f := fun x : EReal => x * k2)]
    simp only [← fold_mul_k2]
    apply le_antisymm
    · rw [Finset.fold_max_le]
      refine ⟨bot_le, fun i _ => ?_⟩
      by_cases h8 : i.val < 8
      · refine le_max_of_le_right ?_
        rw [Finset.le_fold_max]
        exact Or.inr ⟨⟨i.val, h8⟩, Finset.mem_univ _, (hN ⟨i.val, h8⟩).le⟩
      · by_cases h16 : i.val < 16
        · have := hZ ⟨i.val - 8, by omega⟩
          rw [show (⟨8 + (⟨i.val - 8, by omega⟩ : Fin 8).val, by simp; omega⟩ : Fin 400) = i from
            Fin.ext (by simp; omega)] at this
          rw [this]; exact bot_le
        · refine le_max_of_le_left ?_
          rw [Finset.le_fold_max]
          refine Or.inr ⟨⟨i.val - 16, by omega⟩, Finset.mem_univ _, ?_⟩
          have := hC ⟨i.val - 16, by omega⟩
          rw [show (⟨16 + (⟨i.val - 16, by omega⟩ : Fin 384).val, by simp; omega⟩ : Fin 400) = i from
            Fin.ext (by simp; omega)] at this
          exact this.le
    · apply max_le
      · rw [Finset.fold_max_le]
        exact ⟨bot_le, fun t _ => Finset.le_fold_max _ |>.2 (Or.inr ⟨_, Finset.mem_univ _, (hC t).ge⟩)⟩
      · rw [Finset.fold_max_le]
        exact ⟨bot_le, fun t _ => Finset.le_fold_max _ |>.2 (Or.inr ⟨_, Finset.mem_univ _, (hN t).ge⟩)⟩
  unfold kerRow refRow
  rw [hM]
  generalize max (Finset.univ.fold max ⊥ C) (Finset.univ.fold max ⊥ N) = M
  have eN : ∀ j : Fin 8, Ideal.exp2 (L ⟨j.val, by omega⟩ - M * k2) = Ideal.exp (N j - M) := fun j => by
    rw [hN, sub_mul_k2, exp2_mul_k2]
  have eZ : ∀ j : Fin 8, Ideal.exp2 (L ⟨8 + j.val, by omega⟩ - M * k2) = 0 := fun j => by
    rw [hZ, EReal.bot_sub]; rfl
  have eC : ∀ t : Fin 384, Ideal.exp2 (L ⟨16 + t.val, by omega⟩ - M * k2) = Ideal.exp (C t - M) := fun t => by
    rw [hC, sub_mul_k2, exp2_mul_k2]
  have hS : ∑ k, Ideal.exp2 (L k - M * k2) = (∑ t, Ideal.exp (C t - M)) + ∑ j, Ideal.exp (N j - M) := by
    rw [sum_lanes]
    simp only [eN, eZ, eC, Finset.sum_const_zero, add_zero]
    rw [add_comm]
  rw [hS]
  generalize Ideal.div 1 ((∑ t, Ideal.exp (C t - M)) + ∑ j, Ideal.exp (N j - M)) = I
  have h16 := Fin.sum_univ_add (a := 8) (b := 8)
    (fun x : Fin (8 + 8) => Ideal.exp2 (L ⟨x.val, by omega⟩ - M * k2) * I * v ⟨x.val, by omega⟩)
  have h16' : (∑ x : Fin 16, Ideal.exp2 (L ⟨x.val, by omega⟩ - M * k2) * I * v ⟨x.val, by omega⟩)
      = ∑ j, vn j * (Ideal.exp (N j - M) * I) := by
    refine h16.trans ?_
    have z : ∀ j : Fin 8, Ideal.exp2 (L ⟨(Fin.natAdd 8 j).val, by simp; omega⟩ - M * k2) = 0 := eZ
    have n : ∀ j : Fin 8, Ideal.exp2 (L ⟨(Fin.castAdd 8 j).val, by simp; omega⟩ - M * k2) = Ideal.exp (N j - M) := eN
    have n' : ∀ j : Fin 8, v ⟨(Fin.castAdd 8 j).val, by simp; omega⟩ = vn j := hvn
    simp only [z, n, n', zero_mul, Finset.sum_const_zero, add_zero]
    exact Finset.sum_congr rfl fun j _ => mul_comm _ _
  rw [h16', add_comm]
  congr 1
  refine Finset.sum_congr rfl fun t _ => ?_
  rw [eC, hvc, mul_comm]

end Cert.Row

end
-- ==== Proof.Attn.lean ====
/- UNTRUSTED. One batch's attention in the kernel, read at one row and column, and its equality with the reference's row. -/
module

public import proofs.«01_k».proof.Proof.Gen.KernelIdeal.Skeleton
public import proofs.«01_k».proof.Proof.Row

@[expose] public section

set_option maxRecDepth 16384

noncomputable section

namespace Cert.Attn

open Idealize.ShloMosaic Idealize.ShloMosaic.TcCoe Idealize.ShloMosaic.Tactic Idealize.SL.Sem Cert.KernelIdeal Cert.KernelIdeal.Gen

/-- The kernel's named constant is the two factors' product. -/
theorem named_c2 : Named.named (F := Ideal) κ "log2e_over_sqrt_d" (φ := .f32) 0x3E0293EE#32 = (((Real.sqrt 128)⁻¹ * (Real.log 2)⁻¹ : ℝ) : EReal) :=
  IdealRules.named_const.ideal_named_scalar _ _ _ _ rfl

/-- The softmax and the weighted sum at a row and a column are the kernel's row. -/
theorem pay29_apply (v2 v3 : IVec S8x400 32) (va : FVec Ideal S400x256 .bf16) (s : FVec Ideal S96x400 .f32) (a b : IVec S8x400 1)
    (vs : Vec Ideal S1x2x384 .f32) (r : Fin 96) (d : Fin 256) :
    k0_pay29 v2 v3 va s a b vs (ix2 r d)
      = Row.kerRow (fun j => Scalar.select (IntOp.cmpi .sle (Scalar.select (a (ix2 ⟨r.val % 8, by omega⟩ j)) (v2 (ix2 ⟨r.val % 8, by omega⟩ j))
          (Scalar.select (b (ix2 ⟨r.val % 8, by omega⟩ j)) 4294967295#32 400#32)) (v3 (ix2 ⟨r.val % 8, by omega⟩ j))) (s (ix2 r j)) ⊥
          * (((Real.sqrt 128)⁻¹ * (Real.log 2)⁻¹ : ℝ) : EReal))
        (fun t => vs (ix3 0 ⟨r.val / 48, by omega⟩ t)) (fun j => va (ix2 j d)) := by
  have e1 : r.val % 48 % 8 = r.val % 8 := by omega
  have e2 : (r.val / 48 * 6 + r.val % 48 / 8) * 8 + r.val % 8 = r.val := by omega
  pointwise [k0_pay29]
  simp only [e1, e2, named_c2, Row.ofBits_bot]
  rfl

/-- The scores at a row and a lane: the first 48 rows against head 0's keys, the others against head 1's. -/
theorem pay26_apply (kb : Vec Ideal S1x8x2x128 .bf16) (ks0 ks1 : Vec Ideal S1x1x128 .f32) (kc0 kc1 : Vec Ideal S1x1x384x128 .i8) (xb : Vec Ideal S1x96x128 .bf16)
    (r : Fin 96) (j : Fin 400) :
    k0_pay26 (k0_pay3 (F := Ideal)) k0_pay4 (k0_pay8 kb) (k0_pay11 ks0) (k0_pay12 ks1) (k0_pay24 k0_pay3 (k0_pay7 kb)) kc0 kc1 xb (ix2 r j)
      = (∑ x : Fin 128, (if h : r.val < 48 then xb (ix3 0 r x) else (0 : EReal)) *
          if h : j.val < 16 then if h_1 : j.val < 8 then kb (ix4 0 ⟨j.val, h_1⟩ 0 x) else (0 : EReal)
          else FloatOps.sitofp (F := Ideal) .bf16 (kc0 (ix4 0 0 ⟨j.val - 16, by omega⟩ x)) * ks0 (ix3 0 0 x))
      + ∑ x : Fin 128, (if h : r.val < 48 then (0 : EReal) else xb (ix3 0 ⟨48 + (r.val - 48), by omega⟩ x)) *
          if h : j.val < 16 then if h_1 : j.val < 8 then kb (ix4 0 ⟨j.val, h_1⟩ 1 x) else (0 : EReal)
          else FloatOps.sitofp (F := Ideal) .bf16 (kc1 (ix4 0 0 ⟨j.val - 16, by omega⟩ x)) * ks1 (ix3 0 0 x) := by
  pointwise [k0_pay26, k0_pay8, k0_pay11, k0_pay12, k0_pay24, k0_pay7, k0_pay5, k0_pay3, k0_pay4]

/-- The values at a lane and a column: head 0's in the first 128 columns, head 1's in the others. -/
theorem pay25_apply (vb : Vec Ideal S1x8x2x128 .bf16) (vc0 vc1 : Vec Ideal S1x1x384x128 .i8) (j : Fin 400) (d : Fin 256) :
    k0_pay25 (F := Ideal) k0_pay3 (k0_pay9 vb) (k0_pay10 vb) vc0 vc1 (ix2 j d)
      = if h : d.val < 128 then
          if h_1 : j.val < 16 then if h_2 : j.val < 8 then vb (ix4 0 ⟨j.val, h_2⟩ 0 ⟨d.val, h⟩) else (0 : EReal)
          else FloatOps.sitofp (F := Ideal) .bf16 (vc0 (ix4 0 0 ⟨j.val - 16, by omega⟩ ⟨d.val, h⟩))
        else
          if h_1 : j.val < 16 then if h_2 : j.val < 8 then vb (ix4 0 ⟨j.val, h_2⟩ 1 ⟨d.val - 128, by omega⟩) else (0 : EReal)
          else FloatOps.sitofp (F := Ideal) .bf16 (vc1 (ix4 0 0 ⟨j.val - 16, by omega⟩ ⟨d.val - 128, by omega⟩)) := by
  pointwise [k0_pay25, k0_pay9, k0_pay10, k0_pay6, k0_pay3]

/-! ## One batch's attention -/

/-- One batch's attention, all twelve heads: the queries, the new keys and values, the two heads' cached codes, their
    scales, and the batch's length. -/
def att (xb : Vec Ideal S1x96x128 .bf16) (kb vb : Vec Ideal S1x8x2x128 .bf16) (kc vc : Fin 2 → Vec Ideal S1x1x384x128 .i8)
    (ks : Fin 2 → Vec Ideal S1x1x128 .f32) (vs : Vec Ideal S1x2x384 .f32) (n : BitVec 32) : FVec Ideal S96x256 .f32 :=
  k0_pay29 (iota .tc S8x400 32 [1] iota_S8x400_d1_w32) (iota .tc S8x400 32 [0] iota_S8x400_d0_w32)
    (k0_pay25 k0_pay3 (k0_pay9 vb) (k0_pay10 vb) (vc 0) (vc 1))
    (k0_pay26 k0_pay3 k0_pay4 (k0_pay8 kb) (k0_pay11 (ks 0)) (k0_pay12 (ks 1)) (k0_pay24 k0_pay3 (k0_pay7 kb)) (kc 0) (kc 1) xb)
    (k0_pay27 (iota .tc S8x400 32 [1] iota_S8x400_d1_w32)) (k0_pay28 (F := Ideal) (iota .tc S8x400 32 [1] iota_S8x400_d1_w32) n) vs

/-- The lanes' mask: a new key is seen up to the row's own position, an empty lane never, a cached key below the length. -/
theorem mask_eq {α : Type} (n : BitVec 32) (hn : n.toInt ≤ 2147483631) (s : Fin 8) (j : Fin 400) (x y : α) :
    Scalar.select (IntOp.cmpi .sle (Scalar.select (IntOp.cmpi .slt (BitVec.ofNat 32 j.val) 16#32) (BitVec.ofNat 32 j.val)
        (Scalar.select (IntOp.cmpi .slt (BitVec.ofNat 32 j.val) (n + 16#32)) 4294967295#32 400#32)) (BitVec.ofNat 32 s.val)) x y
      = if (j.val < 16 ∧ j.val ≤ s.val) ∨ (16 ≤ j.val ∧ (j.val : ℤ) - 16 < n.toInt) then x else y := by
  have toI : ∀ k : ℕ, k < 401 → (BitVec.ofNat 32 k).toInt = k := fun k hk => by
    rw [BitVec.toInt_eq_toNat_cond, BitVec.toNat_ofNat]; omega
  have hj := toI j.val (by omega)
  have hs := toI s.val (by omega)
  have h16 : (16#32).toInt = 16 := by decide
  have hm : (4294967295#32).toInt = -1 := by decide
  have h4 : (400#32).toInt = 400 := by decide
  have hb := BitVec.le_toInt n
  have ha : (n + 16#32).toInt = n.toInt + 16 := by
    rw [BitVec.toInt_add, h16, Int.bmod_eq_of_le (by norm_num at hb ⊢; omega) (by norm_num at hb ⊢; omega)]
  have hs8 := s.isLt
  rw [Row.select_sle, Row.select_slt, Row.select_slt, hj, h16, ha, hs]
  by_cases h1 : j.val < 16
  · rw [if_pos (show (j.val : ℤ) < 16 by omega), hj]
    exact if_congr (by omega) rfl rfl
  · rw [if_neg (show ¬ (j.val : ℤ) < 16 by omega)]
    by_cases h2 : (j.val : ℤ) < n.toInt + 16
    · rw [if_pos h2, hm, if_pos (show (-1 : ℤ) ≤ s.val by omega), if_pos (by omega)]
    · rw [if_neg h2, h4, if_neg (show ¬ (400 : ℤ) ≤ s.val by omega), if_neg (by omega)]

/-- Converting an eight-bit code to a float goes through thirty-two bits unchanged. -/
theorem sitofp_ext (b : BitVec 8) :
    FloatOps.sitofp (F := Ideal) .bf16 (BitVec.signExtend 32 b) = FloatOps.sitofp (F := Ideal) .bf16 b := by
  show (((BitVec.signExtend 32 b).toInt : ℝ) : EReal) = ((b.toInt : ℝ) : EReal)
  rw [BitVec.toInt_signExtend_of_le (by norm_num)]

/-- A score's two factors: over the root of 128, then over `log 2`. -/
theorem scale_eq (x : EReal) :
    x * (((Real.sqrt 128)⁻¹ * (Real.log 2)⁻¹ : ℝ) : EReal) = Ideal.div x (Ideal.sqrt ((128 : ℝ) : EReal)) * Row.k2 := by
  have h : Real.sqrt 128 ≠ 0 := by positivity
  rw [Ideal.sqrt_coe, if_neg (by norm_num), Ideal.div_coe h, Row.k2, mul_assoc, ← EReal.coe_mul, one_div]

/-- The scores of a cached lane. -/
theorem score_c (kb : Vec Ideal S1x8x2x128 .bf16) (ks : Fin 2 → Vec Ideal S1x1x128 .f32) (kc : Fin 2 → Vec Ideal S1x1x384x128 .i8) (xb : Vec Ideal S1x96x128 .bf16)
    (k : Fin 2) (r : Fin 96) (hr : r.val / 48 = k.val) (t : Fin 384) :
    k0_pay26 (k0_pay3 (F := Ideal)) k0_pay4 (k0_pay8 kb) (k0_pay11 (ks 0)) (k0_pay12 (ks 1)) (k0_pay24 k0_pay3 (k0_pay7 kb)) (kc 0) (kc 1) xb (ix2 r ⟨16 + t.val, by omega⟩)
      = ∑ x : Fin 128, FloatOps.sitofp (F := Ideal) .bf16 (kc k (ix4 0 0 t x)) * ks k (ix3 0 0 x) * xb (ix3 0 r x) := by
  rw [pay26_apply]
  have h1 : ¬ 16 + t.val < 16 := by omega
  have h2 : (⟨16 + t.val - 16, by omega⟩ : Fin 384) = t := Fin.ext (by simp)
  simp only [dif_neg h1, h2]
  by_cases hk : r.val < 48
  · obtain rfl : k = 0 := Fin.ext (by simp; omega)
    simp only [dif_pos hk, zero_mul, Finset.sum_const_zero, add_zero]
    exact Finset.sum_congr rfl fun x _ => mul_comm _ _
  · obtain rfl : k = 1 := Fin.ext (by simp; omega)
    have h3 : (⟨48 + (r.val - 48), by omega⟩ : Fin 96) = r := Fin.ext (by simp; omega)
    simp only [dif_neg hk, zero_mul, Finset.sum_const_zero, zero_add, h3]
    exact Finset.sum_congr rfl fun x _ => mul_comm _ _

/-- The scores of a new lane. -/
theorem score_n (kb : Vec Ideal S1x8x2x128 .bf16) (ks : Fin 2 → Vec Ideal S1x1x128 .f32) (kc : Fin 2 → Vec Ideal S1x1x384x128 .i8) (xb : Vec Ideal S1x96x128 .bf16)
    (k : Fin 2) (r : Fin 96) (hr : r.val / 48 = k.val) (j : Fin 8) :
    k0_pay26 (k0_pay3 (F := Ideal)) k0_pay4 (k0_pay8 kb) (k0_pay11 (ks 0)) (k0_pay12 (ks 1)) (k0_pay24 k0_pay3 (k0_pay7 kb)) (kc 0) (kc 1) xb (ix2 r ⟨j.val, by omega⟩)
      = ∑ x : Fin 128, kb (ix4 0 j k x) * xb (ix3 0 r x) := by
  rw [pay26_apply]
  have h1 : j.val < 16 := by omega
  have h2 : j.val < 8 := j.isLt
  simp only [dif_pos h1, dif_pos h2]
  by_cases hk : r.val < 48
  · obtain rfl : k = 0 := Fin.ext (by simp; omega)
    simp only [dif_pos hk, zero_mul, Finset.sum_const_zero, add_zero]
    exact Finset.sum_congr rfl fun x _ => mul_comm _ _
  · obtain rfl : k = 1 := Fin.ext (by simp; omega)
    have h3 : (⟨48 + (r.val - 48), by omega⟩ : Fin 96) = r := Fin.ext (by simp; omega)
    simp only [dif_neg hk, zero_mul, Finset.sum_const_zero, zero_add, h3]
    exact Finset.sum_congr rfl fun x _ => mul_comm _ _

/-- The value of a cached lane. -/
theorem val_c (vb : Vec Ideal S1x8x2x128 .bf16) (vc : Fin 2 → Vec Ideal S1x1x384x128 .i8) (k : Fin 2) (d : Fin 128) (t : Fin 384) :
    k0_pay25 (F := Ideal) k0_pay3 (k0_pay9 vb) (k0_pay10 vb) (vc 0) (vc 1) (ix2 ⟨16 + t.val, by omega⟩ ⟨128 * k.val + d.val, by omega⟩)
      = FloatOps.sitofp (F := Ideal) .bf16 (vc k (ix4 0 0 t d)) := by
  rw [pay25_apply]
  have h1 : ¬ 16 + t.val < 16 := by omega
  have h2 : (⟨16 + t.val - 16, by omega⟩ : Fin 384) = t := Fin.ext (by simp)
  simp only [dif_neg h1, h2]
  fin_cases k
  · rw [dif_pos (by simp)]; congr 3; exact Fin.ext (by simp)
  · rw [dif_neg (by simp)]; congr 3; exact Fin.ext (by simp)

/-- The value of a new lane. -/
theorem val_n (vb : Vec Ideal S1x8x2x128 .bf16) (vc : Fin 2 → Vec Ideal S1x1x384x128 .i8) (k : Fin 2) (d : Fin 128) (j : Fin 8) :
    k0_pay25 (F := Ideal) k0_pay3 (k0_pay9 vb) (k0_pay10 vb) (vc 0) (vc 1) (ix2 ⟨j.val, by omega⟩ ⟨128 * k.val + d.val, by omega⟩)
      = vb (ix4 0 j k d) := by
  rw [pay25_apply]
  have h1 : j.val < 16 := by omega
  have h2 : j.val < 8 := j.isLt
  simp only [dif_pos h1, dif_pos h2]
  fin_cases k
  · rw [dif_pos (by simp)]; congr 2; exact Fin.ext (by simp)
  · rw [dif_neg (by simp)]; congr 2; exact Fin.ext (by simp)

/-- One batch's attention at a row of head group `k` and a column of its values is the reference's row. -/
theorem att_apply (xb : Vec Ideal S1x96x128 .bf16) (kb vb : Vec Ideal S1x8x2x128 .bf16) (kc vc : Fin 2 → Vec Ideal S1x1x384x128 .i8)
    (ks : Fin 2 → Vec Ideal S1x1x128 .f32) (vs : Vec Ideal S1x2x384 .f32) (n : BitVec 32) (hn : n.toInt ≤ 2147483631)
    (k : Fin 2) (r : Fin 96) (hr : r.val / 48 = k.val) (d : Fin 128) :
    att xb kb vb kc vc ks vs n (ix2 r ⟨128 * k.val + d.val, by omega⟩)
      = Row.refRow
          (fun t => if (t.val : ℤ) < n.toInt then
              Ideal.div (∑ x : Fin 128, FloatOps.sitofp (F := Ideal) .bf16 (kc k (ix4 0 0 t x)) * ks k (ix3 0 0 x) * xb (ix3 0 r x)) (Ideal.sqrt ((128 : ℝ) : EReal))
            else ⊥)
          (fun j => if j.val ≤ r.val % 8 then Ideal.div (∑ x : Fin 128, kb (ix4 0 j k x) * xb (ix3 0 r x)) (Ideal.sqrt ((128 : ℝ) : EReal)) else ⊥)
          (fun t => vs (ix3 0 k t)) (fun t => FloatOps.sitofp (F := Ideal) .bf16 (vc k (ix4 0 0 t d))) (fun j => vb (ix4 0 j k d)) := by
  have hbot : (⊥ : EReal) * (((Real.sqrt 128)⁻¹ * (Real.log 2)⁻¹ : ℝ) : EReal) = ⊥ := by
    refine EReal.bot_mul_coe_of_pos (mul_pos ?_ Row.log2_inv_pos)
    positivity
  have hlane : ∀ (s : Fin 8) (j : Fin 400), iota .tc S8x400 32 [1] iota_S8x400_d1_w32 (ix2 s j) = BitVec.ofNat 32 j.val := fun s j => by pointwise
  have hsrow : ∀ (s : Fin 8) (j : Fin 400), iota .tc S8x400 32 [0] iota_S8x400_d0_w32 (ix2 s j) = BitVec.ofNat 32 s.val := fun s j => by pointwise
  have ha : ∀ (s : Fin 8) (j : Fin 400), k0_pay27 (iota .tc S8x400 32 [1] iota_S8x400_d1_w32) (ix2 s j) = IntOp.cmpi .slt (BitVec.ofNat 32 j.val) 16#32 :=
    fun s j => by pointwise [k0_pay27]
  have hb : ∀ (s : Fin 8) (j : Fin 400), k0_pay28 (F := Ideal) (iota .tc S8x400 32 [1] iota_S8x400_d1_w32) n (ix2 s j) = IntOp.cmpi .slt (BitVec.ofNat 32 j.val) (n + 16#32) :=
    fun s j => by pointwise [k0_pay28]; rfl
  have hk : (⟨r.val / 48, by omega⟩ : Fin 2) = k := Fin.ext hr
  unfold att
  rw [pay29_apply, hk]
  simp only [hlane, hsrow, ha, hb]
  simp only [fun j x y => mask_eq (α := EReal) n hn ⟨r.val % 8, by omega⟩ j x y]
  refine Row.kerRow_eq _ _ _ _ _ _ _ (fun j => ?_) (fun j => ?_) (fun t => ?_) (fun j => val_n vb vc k d j) (fun t => val_c vb vc k d t)
  · dsimp only
    rw [score_n kb ks kc xb k r hr j]
    by_cases h : j.val ≤ r.val % 8
    · rw [if_pos (Or.inl ⟨by omega, h⟩), if_pos h, scale_eq]
    · rw [if_neg (by omega), if_neg h, hbot, Row.bot_mul_k2]
  · dsimp only
    rw [if_neg (by omega), hbot]
  · dsimp only
    rw [score_c kb ks kc xb k r hr t]
    by_cases h : (t.val : ℤ) < n.toInt
    · rw [if_pos (Or.inr ⟨by omega, by push_cast; omega⟩), if_pos h, scale_eq]
    · rw [if_neg (by push_cast; omega), if_neg h, hbot, Row.bot_mul_k2]

end Cert.Attn

end
-- ==== Proof.Block.lean ====
/- UNTRUSTED. What the body leaves in its four output blocks, as functions of its input blocks. -/
module

public import proofs.«01_k».proof.Proof.Gen.KernelIdeal.Frame
public import proofs.«01_k».proof.Proof.Attn
public import Idealize.ShloMosaic.Lib.UnfoldOut
public import Idealize.ShloMosaic.Lib.Pipeline.ValueKit

@[expose] public section

set_option maxRecDepth 16384

noncomputable section

namespace Cert.Block

open Idealize.ShloMosaic Idealize.ShloMosaic.TcCoe Idealize.ShloMosaic.Tactic Idealize.SL.Sem Cert.KernelIdeal Cert.KernelIdeal.Gen

/-- The mask's bit of an equality of floats. -/
theorem select_oeq {α : Type} (a b : EReal) (x y : α) :
    Scalar.select (FloatOps.cmpf (F := Ideal) (φ := .f32) .oeq a b) x y = if a = b then x else y := by
  by_cases h : a = b <;> simp [Scalar.select, FloatOps.cmpf, Ideal.cmp, h]

/-- The scale of a row of new values: its largest magnitude over 127, one for a row of zeros. -/
def vScale (v : Fin 128 → EReal) : EReal :=
  if Finset.univ.fold max ⊥ (fun d => FloatOps.absf (F := Ideal) (φ := .f32) (v d)) = 0 then 1
  else Ideal.div (Finset.univ.fold max ⊥ fun d => FloatOps.absf (F := Ideal) (φ := .f32) (v d)) ((127 : ℝ) : EReal)

/-- The code of a value at a scale: the quotient rounded to even, clipped to ±127. -/
def code (x s : EReal) : BitVec 8 :=
  Ideal.fptosi 8 (min ((127 : ℝ) : EReal) (max ((-127 : ℝ) : EReal) (Ideal.liftRound Ideal.roundHalfEven (Ideal.div x s))))

/-- Window 8's block: the codes of the new keys. -/
def G8 (x1 : Vec Ideal S4x8x2x128 .bf16) (x4 : Vec Ideal S4x2x128 .f32) : Vec Ideal S4x2x8x128 .i8 :=
  fun y => code (x1 (ix4 (y 0) (y 2) (y 1) (y 3))) (x4 (ix3 (y 0) (y 1) (y 3)))

/-- Window 9's block: the codes of the new values at their own scales. -/
def G9 (x2 : Vec Ideal S4x8x2x128 .bf16) : Vec Ideal S4x2x8x128 .i8 :=
  fun y => code (x2 (ix4 (y 0) (y 2) (y 1) (y 3))) (vScale fun d => x2 (ix4 (y 0) (y 2) (y 1) d))

/-- Window 10's block: the new values' scales, one along the row. -/
def G10 (x2 : Vec Ideal S4x8x2x128 .bf16) : Vec Ideal S4x2x8x128 .f32 :=
  fun y => vScale fun d => x2 (ix4 (y 0) (y 2) (y 1) d)

/-- Where a code tile's index lies in its block. -/
theorem emb4 {B K : ℕ} (hB : B < 4) (hK : K < 2) (h) (x0 x1 : Fin 1) (x2 : Fin 8) (x3 : Fin 128) :
    (Rect.unit (s := S4x2x8x128) ![B, K, 0, 0] ![1, 1, 8, 128] h).emb (ix4 x0 x1 x2 x3) = ix4 ⟨B, hB⟩ ⟨K, hK⟩ x2 x3 := by
  refine funext fun a => Fin.ext ?_
  rw [Idealize.ShloMosaic.ValueKit.rect_emb_unit_val]
  have h0 := x0.isLt
  have h1 := x1.isLt
  fin_cases a
  · show B + x0.val = B; omega
  · show K + x1.val = K; omega
  · show 0 + x2.val = x2.val; omega
  · show 0 + x3.val = x3.val; omega

/-- The window-0 rectangle of batch `b` lies in its block; likewise below for the other windows. -/
theorem in0 (b : Fin 4) : ∀ a, (![b.val, 0, 0] : Fin 3 → ℕ) a + (![1, 96, 128] : Fin 3 → ℕ) a ≤ S4x96x128.size a := by
  have := b.isLt; intro a; fin_cases a
  · show b.val + 1 ≤ 4; omega
  · exact le_refl 96
  · exact le_refl 128
/-- One batch of the new rows lies within its block. -/
theorem in1 (b : Fin 4) : ∀ a, (![b.val, 0, 0, 0] : Fin 4 → ℕ) a + (![1, 8, 2, 128] : Fin 4 → ℕ) a ≤ S4x8x2x128.size a := by
  have := b.isLt; intro a; fin_cases a
  · show b.val + 1 ≤ 4; omega
  · exact le_refl 8
  · exact le_refl 2
  · exact le_refl 128
/-- One batch and head of the cached codes lies within its block. -/
theorem in3 (b : Fin 4) (k : Fin 2) : ∀ a, (![b.val, k.val, 0, 0] : Fin 4 → ℕ) a + (![1, 1, 384, 128] : Fin 4 → ℕ) a ≤ S4x2x384x128.size a := by
  have := b.isLt; have := k.isLt; intro a; fin_cases a
  · show b.val + 1 ≤ 4; omega
  · show k.val + 1 ≤ 2; omega
  · exact le_refl 384
  · exact le_refl 128
/-- One batch and head of the key scales lies within its block. -/
theorem in4 (b : Fin 4) (k : Fin 2) : ∀ a, (![b.val, k.val, 0] : Fin 3 → ℕ) a + (![1, 1, 128] : Fin 3 → ℕ) a ≤ S4x2x128.size a := by
  have := b.isLt; have := k.isLt; intro a; fin_cases a
  · show b.val + 1 ≤ 4; omega
  · show k.val + 1 ≤ 2; omega
  · exact le_refl 128
/-- One batch of the value scales lies within its block. -/
theorem in6 (b : Fin 4) : ∀ a, (![b.val, 0, 0] : Fin 3 → ℕ) a + (![1, 2, 384] : Fin 3 → ℕ) a ≤ S4x2x384.size a := by
  have := b.isLt; intro a; fin_cases a
  · show b.val + 1 ≤ 4; omega
  · exact le_refl 2
  · exact le_refl 384

/-- The attention of batch `b` of a block, from the block's loads. -/
def attB (x0 : Vec Ideal S4x96x128 .bf16) (x1 x2 : Vec Ideal S4x8x2x128 .bf16) (x3 : Vec Ideal S4x2x384x128 .i8) (x4 : Vec Ideal S4x2x128 .f32)
    (x5 : Vec Ideal S4x2x384x128 .i8) (x6 : Vec Ideal S4x2x384 .f32) (n : BitVec 32) (b : Fin 4) : FVec Ideal S96x256 .f32 :=
  Attn.att (View.ld x0 (Rect.unit ![b.val, 0, 0] ![1, 96, 128] (in0 b))) (View.ld x1 (Rect.unit ![b.val, 0, 0, 0] ![1, 8, 2, 128] (in1 b)))
    (View.ld x2 (Rect.unit ![b.val, 0, 0, 0] ![1, 8, 2, 128] (in1 b))) (fun k => View.ld x3 (Rect.unit ![b.val, k.val, 0, 0] ![1, 1, 384, 128] (in3 b k)))
    (fun k => View.ld x5 (Rect.unit ![b.val, k.val, 0, 0] ![1, 1, 384, 128] (in3 b k))) (fun k => View.ld x4 (Rect.unit ![b.val, k.val, 0] ![1, 1, 128] (in4 b k)))
    (View.ld x6 (Rect.unit ![b.val, 0, 0] ![1, 2, 384] (in6 b))) n

/-- The offset of batch `b`'s length in the table. -/
theorem off_eq (i : grid0.Coords) (b : Fin 4) : k0_off1 i (BitVec.ofNat 32 b.val) = ![4 * (i 0).val + b.val] := by
  have h : (i 0).val < 80 := (i 0).isLt
  have hb := b.isLt
  funext a
  fin_cases a
  show (BitVec.ofNat 32 (i 0).val * 4#32 + BitVec.ofNat 32 b.val).toNat = 4 * (i 0).val + b.val
  rw [BitVec.toNat_add, BitVec.toNat_mul, BitVec.toNat_ofNat, BitVec.toNat_ofNat, BitVec.toNat_ofNat]
  omega

/-- One batch's length lies within the table. -/
theorem in7 (i : grid0.Coords) (b : Fin 4) : ∀ a, k0_off1 i (BitVec.ofNat 32 b.val) a + S1.size a ≤ S320.size a := by
  have h : (i 0).val < 80 := (i 0).isLt
  have hb := b.isLt
  rw [off_eq]; intro a; fin_cases a
  show 4 * (i 0).val + b.val + 1 ≤ 320
  omega

/-- The block's word of batch `b`'s length, as the body loads it. -/
def len (t : Vec Ideal S320 .i32) (i : grid0.Coords) (b : Fin 4) : BitVec 32 :=
  View.ld t (Rect.unit (k0_off1 i (BitVec.ofNat 32 b.val)) S1.size (in7 i b)) (Shape.Idx.first (by decide : 0 < S1.numel))

/-- That word is the table's at four times the point and the batch. -/
theorem len_eq (t : Vec Ideal S320 .i32) (i : grid0.Coords) (b : Fin 4) (p : Fin 320) (hp : p.val = 4 * (i 0).val + b.val) :
    len t i b = t (ix1 p) := by
  unfold len
  rw [View.ld_apply]
  congr 1
  refine funext fun a => Fin.ext ?_
  rw [Rect.idx_unit_val]
  have e := congrFun (off_eq i b) a
  fin_cases a
  refine (congrArg (· + 0) e).trans ?_
  show 4 * (i 0).val + b.val + 0 = p.val
  omega

/-- Window 7's block: for each batch, the first 48 rows from the first 128 columns, the others from the others. -/
def G7 (x0 : Vec Ideal S4x96x128 .bf16) (x1 x2 : Vec Ideal S4x8x2x128 .bf16) (x3 : Vec Ideal S4x2x384x128 .i8) (x4 : Vec Ideal S4x2x128 .f32)
    (x5 : Vec Ideal S4x2x384x128 .i8) (x6 : Vec Ideal S4x2x384 .f32) (n : Fin 4 → BitVec 32) : Vec Ideal S4x96x128 .bf16 :=
  fun y => attB x0 x1 x2 x3 x4 x5 x6 (n (y 0)) (y 0) (ix2 (y 1) ⟨128 * ((y 1).val / 48) + (y 2).val, by
    have h1 : (y 1).val < 96 := (y 1).isLt
    have h2 : (y 2).val < 128 := (y 2).isLt
    omega⟩)

/-- Window 7's block at an index: the row of attention over the block's batch. -/
theorem G7_apply (x0 : Vec Ideal S4x96x128 .bf16) (x1 x2 : Vec Ideal S4x8x2x128 .bf16) (x3 : Vec Ideal S4x2x384x128 .i8) (x4 : Vec Ideal S4x2x128 .f32)
    (x5 : Vec Ideal S4x2x384x128 .i8) (x6 : Vec Ideal S4x2x384 .f32) (n : Fin 4 → BitVec 32) (b : Fin 4) (hn : (n b).toInt ≤ 2147483631)
    (r : Fin 96) (d : Fin 128) (k : Fin 2) (hk : r.val / 48 = k.val) :
    G7 x0 x1 x2 x3 x4 x5 x6 n (ix3 b r d) =
      Row.refRow (fun t : Fin 384 => if (t.val : ℤ) < (n b).toInt then Ideal.div (∑ x : Fin 128, FloatOps.sitofp (F := Ideal) .bf16 (x3 (ix4 b k t x)) * x4 (ix3 b k x) * x0 (ix3 b r x)) (Ideal.sqrt ((128 : ℝ) : EReal)) else ⊥)
        (fun j : Fin 8 => if j.val ≤ r.val % 8 then Ideal.div (∑ x : Fin 128, x1 (ix4 b j k x) * x0 (ix3 b r x)) (Ideal.sqrt ((128 : ℝ) : EReal)) else ⊥)
        (fun t => x6 (ix3 b k t)) (fun t => FloatOps.sitofp (F := Ideal) .bf16 (x5 (ix4 b k t d))) (fun j => x2 (ix4 b j k d)) := by
  show attB x0 x1 x2 x3 x4 x5 x6 (n b) b (ix2 r ⟨128 * (r.val / 48) + d.val, _⟩) = _
  have ed : (⟨128 * (r.val / 48) + d.val, by omega⟩ : Fin 256) = ⟨128 * k.val + d.val, by omega⟩ := Fin.ext (by show 128 * (r.val / 48) + d.val = 128 * k.val + d.val; rw [hk])
  rw [ed, attB, Attn.att_apply _ _ _ _ _ _ _ _ hn k r hk d]
  have h0 : ∀ x, View.ld x0 (Rect.unit ![b.val, 0, 0] ![1, 96, 128] (in0 b)) (ix3 0 r x) = x0 (ix3 b r x) := by
    intro x; rw [View.ld_apply]; congr 1; refine funext fun a => Fin.ext ?_; rw [Rect.idx_unit_val]; fin_cases a <;> simp
  have h1 : ∀ (X : Vec Ideal S4x8x2x128 .bf16) j x, View.ld X (Rect.unit ![b.val, 0, 0, 0] ![1, 8, 2, 128] (in1 b)) (ix4 0 j k x) = X (ix4 b j k x) := by
    intro X j x; rw [View.ld_apply]; congr 1; refine funext fun a => Fin.ext ?_; rw [Rect.idx_unit_val]; fin_cases a <;> simp
  have h3 : ∀ (X : Vec Ideal S4x2x384x128 .i8) t x, View.ld X (Rect.unit ![b.val, k.val, 0, 0] ![1, 1, 384, 128] (in3 b k)) (ix4 0 0 t x) = X (ix4 b k t x) := by
    intro X j x; rw [View.ld_apply]; congr 1; refine funext fun a => Fin.ext ?_; rw [Rect.idx_unit_val]; fin_cases a <;> simp
  have h4 : ∀ x, View.ld x4 (Rect.unit ![b.val, k.val, 0] ![1, 1, 128] (in4 b k)) (ix3 0 0 x) = x4 (ix3 b k x) := by
    intro x; rw [View.ld_apply]; congr 1; refine funext fun a => Fin.ext ?_; rw [Rect.idx_unit_val]; fin_cases a <;> simp
  have h6 : ∀ t, View.ld x6 (Rect.unit ![b.val, 0, 0] ![1, 2, 384] (in6 b)) (ix3 0 k t) = x6 (ix3 b k t) := by
    intro x; rw [View.ld_apply]; congr 1; refine funext fun a => Fin.ext ?_; rw [Rect.idx_unit_val]; fin_cases a <;> simp
  simp only [h0, h1 x1, h1 x2, h3 x3, h3 x5, h4, h6]

/-- Where an output tile's index lies in its block. -/
theorem emb3 {B O : ℕ} (hB : B < 4) (hO : O + 48 ≤ 96) (h) (x0 : Fin 1) (x1 : Fin 48) (x2 : Fin 128) :
    (Rect.unit (s := S4x96x128) ![B, O, 0] ![1, 48, 128] h).emb (ix3 x0 x1 x2) = ix3 ⟨B, hB⟩ ⟨O + x1.val, by omega⟩ x2 := by
  refine funext fun a => Fin.ext ?_
  rw [Idealize.ShloMosaic.ValueKit.rect_emb_unit_val]
  have h0 := x0.isLt
  fin_cases a
  · show B + x0.val = B; omega
  · rfl
  · show 0 + x2.val = x2.val; omega

/-- The first tile of a batch at an index. -/
theorem tile0 (A : FVec Ideal S96x256 .f32) (x0 : Fin 1) (x1 : Fin 48) (x2 : Fin 128) :
    k0_pay1 A (ix3 x0 x1 x2) = A (ix2 ⟨x1.val, by omega⟩ ⟨x2.val, by omega⟩) := by
  pointwise [k0_pay1]

/-- The second tile of a batch at an index. -/
theorem tile1 (A : FVec Ideal S96x256 .f32) (x0 : Fin 1) (x1 : Fin 48) (x2 : Fin 128) :
    k0_pay2 A (ix3 x0 x1 x2) = A (ix2 ⟨48 + x1.val, by omega⟩ ⟨128 + x2.val, by omega⟩) := by
  pointwise [k0_pay2]

/-- A first tile's entry of window 7's block. -/
theorem G7_0 (x0 : Vec Ideal S4x96x128 .bf16) (x1 x2 : Vec Ideal S4x8x2x128 .bf16) (x3 : Vec Ideal S4x2x384x128 .i8) (x4 : Vec Ideal S4x2x128 .f32)
    (x5 : Vec Ideal S4x2x384x128 .i8) (x6 : Vec Ideal S4x2x384 .f32) (n : Fin 4 → BitVec 32) (b : Fin 4) (z : Fin 1) (r : Fin 48) (d : Fin 128) (h) :
    G7 x0 x1 x2 x3 x4 x5 x6 n (ix3 b ⟨0 + r.val, h⟩ d) = k0_pay1 (attB x0 x1 x2 x3 x4 x5 x6 (n b) b) (ix3 z r d) := by
  rw [tile0]
  show attB x0 x1 x2 x3 x4 x5 x6 (n b) b (ix2 _ _) = _
  congr 2
  · exact Fin.ext (by simp)
  · exact Fin.ext (by show 128 * ((0 + r.val) / 48) + d.val = d.val; omega)

/-- A second tile's entry of window 7's block. -/
theorem G7_1 (x0 : Vec Ideal S4x96x128 .bf16) (x1 x2 : Vec Ideal S4x8x2x128 .bf16) (x3 : Vec Ideal S4x2x384x128 .i8) (x4 : Vec Ideal S4x2x128 .f32)
    (x5 : Vec Ideal S4x2x384x128 .i8) (x6 : Vec Ideal S4x2x384 .f32) (n : Fin 4 → BitVec 32) (b : Fin 4) (z : Fin 1) (r : Fin 48) (d : Fin 128) (h) :
    G7 x0 x1 x2 x3 x4 x5 x6 n (ix3 b ⟨48 + r.val, h⟩ d) = k0_pay2 (attB x0 x1 x2 x3 x4 x5 x6 (n b) b) (ix3 z r d) := by
  rw [tile1]
  show attB x0 x1 x2 x3 x4 x5 x6 (n b) b (ix2 _ _) = _
  congr 2
  exact Fin.ext (by show 128 * ((48 + r.val) / 48) + d.val = 128 + d.val; omega)

variable (c : Dev nD) (i : grid0.Coords) (arg2 : Memref sig .tc .vmem S4x96x128 .bf16) (harg2 : arg2.IsWhole) (arg3 : Memref sig .tc .vmem S4x8x2x128 .bf16) (harg3 : arg3.IsWhole) (arg4 : Memref sig .tc .vmem S4x8x2x128 .bf16) (harg4 : arg4.IsWhole) (arg5 : Memref sig .tc .vmem S4x2x384x128 .i8) (harg5 : arg5.IsWhole) (arg6 : Memref sig .tc .vmem S4x2x128 .f32) (harg6 : arg6.IsWhole) (arg7 : Memref sig .tc .vmem S4x2x384x128 .i8) (harg7 : arg7.IsWhole) (arg8 : Memref sig .tc .vmem S4x2x384 .f32) (harg8 : arg8.IsWhole) (arg9 : Memref sig .tc .vmem S4x96x128 .bf16) (harg9 : arg9.IsWhole) (arg10 : Memref sig .tc .vmem S4x2x8x128 .i8) (harg10 : arg10.IsWhole) (arg11 : Memref sig .tc .vmem S4x2x8x128 .i8) (harg11 : arg11.IsWhole) (arg12 : Memref sig .tc .vmem S4x2x8x128 .f32) (harg12 : arg12.IsWhole)
    (x0 : Vec Ideal S4x96x128 .bf16) (x1 : Vec Ideal S4x8x2x128 .bf16) (x2 : Vec Ideal S4x8x2x128 .bf16) (x3 : Vec Ideal S4x2x384x128 .i8) (x4 : Vec Ideal S4x2x128 .f32) (x5 : Vec Ideal S4x2x384x128 .i8) (x6 : Vec Ideal S4x2x384 .f32) (xt0 : TbBuf0 (F := Ideal) c tbM0_0)

/-- The body leaves the new keys' codes in window 8. -/
theorem out8 : out0_A_8 c i arg2 harg2 arg3 harg3 arg4 harg4 arg5 harg5 arg6 harg6 arg7 harg7 arg8 harg8 arg9 harg9 arg10 harg10 arg11 harg11 arg12 harg12 x0 x1 x2 x3 x4 x5 x6 xt0 = G8 x1 x4 := by
  funext y
  unfold out0_A_8
  refine View.read_writes_apply_of_pieces VO0_8 _ (G8 x1 x4) _ ?_ y (cover0_A_8 ..)
  unfold kernelRun0_A
  dsimp only
  sl_unfold_words
  simp only [View.readAt_eq_ld, Memref.IsWhole.read_unread]
  intro p hp
  fin_cases hp
  all_goals
    intro x
    dsimp only
    idx_vars x
    rw [emb4 (by norm_num) (by norm_num)]
    unfold_payloads
    pointwise [G8]
    rw [Row.ofBits_127, Row.ofBits_neg_127]
    rfl

/-- The body leaves the new values' codes in window 9. -/
theorem out9 : out0_A_9 c i arg2 harg2 arg3 harg3 arg4 harg4 arg5 harg5 arg6 harg6 arg7 harg7 arg8 harg8 arg9 harg9 arg10 harg10 arg11 harg11 arg12 harg12 x0 x1 x2 x3 x4 x5 x6 xt0 = G9 x2 := by
  funext y
  unfold out0_A_9
  refine View.read_writes_apply_of_pieces VO0_9 _ (G9 x2) _ ?_ y (cover0_A_9 ..)
  unfold kernelRun0_A
  dsimp only
  sl_unfold_words
  simp only [View.readAt_eq_ld, Memref.IsWhole.read_unread]
  intro p hp
  fin_cases hp
  all_goals
    intro x
    dsimp only
    idx_vars x
    rw [emb4 (by norm_num) (by norm_num)]
    unfold_payloads
    pointwise [G9]
    simp only [Row.ofBits_127, Row.ofBits_neg_127, Row.ofBits_bot, select_oeq]
    rfl

/-- The body leaves the new values' scales in window 10, one along the row. -/
theorem out10 : out0_A_10 c i arg2 harg2 arg3 harg3 arg4 harg4 arg5 harg5 arg6 harg6 arg7 harg7 arg8 harg8 arg9 harg9 arg10 harg10 arg11 harg11 arg12 harg12 x0 x1 x2 x3 x4 x5 x6 xt0 = G10 x2 := by
  funext y
  unfold out0_A_10
  refine View.read_writes_apply_of_pieces VO0_10 _ (G10 x2) _ ?_ y (cover0_A_10 ..)
  unfold kernelRun0_A
  dsimp only
  sl_unfold_words
  simp only [View.readAt_eq_ld, Memref.IsWhole.read_unread]
  intro p hp
  fin_cases hp
  all_goals
    intro x
    dsimp only
    idx_vars x
    rw [emb4 (by norm_num) (by norm_num)]
    unfold_payloads
    pointwise [G10]
    simp only [Row.ofBits_127, Row.ofBits_bot, select_oeq]
    rfl

/-- The body leaves each batch's attention in window 7. -/
theorem out7 : out0_A_7 c i arg2 harg2 arg3 harg3 arg4 harg4 arg5 harg5 arg6 harg6 arg7 harg7 arg8 harg8 arg9 harg9 arg10 harg10 arg11 harg11 arg12 harg12 x0 x1 x2 x3 x4 x5 x6 xt0 = G7 x0 x1 x2 x3 x4 x5 x6 (len xt0 i) := by
  funext y
  unfold out0_A_7
  refine View.read_writes_apply_of_pieces VO0_7 _ (G7 x0 x1 x2 x3 x4 x5 x6 (len xt0 i)) _ ?_ y (cover0_A_7 ..)
  unfold kernelRun0_A
  dsimp only
  sl_unfold_words
  simp only [View.readAt_eq_ld, Memref.IsWhole.read_unread]
  rw [harg2.read_unread, harg3.read_unread, harg4.read_unread, harg5.read_unread, harg6.read_unread, harg7.read_unread]
  intro p hp
  fin_cases hp
  all_goals
    intro x
    idx_vars x
    rw [emb3 (by norm_num) (by norm_num)]
    first
    | rw [G7_0 _ _ _ _ _ _ _ _ _ x0]; rfl
    | rw [G7_1 _ _ _ _ _ _ _ _ _ x0]; rfl

end Cert.Block

end
-- ==== Proof.Places.lean ====
/- UNTRUSTED. Where the windows' blocks lie in their arrays over the grid of 80 points, four batches each, and what a point
   leaves in the four result blocks, by `Block.lean`. -/
module

public import proofs.«01_k».proof.Proof.Block

@[expose] public section

set_option maxRecDepth 16384

noncomputable section

namespace Cert.Arrays

open Idealize.ShloMosaic Idealize.ShloMosaic.TcCoe Idealize.ShloMosaic.Tactic Idealize.SL.Sem Cert.KernelIdeal Cert.KernelIdeal.Gen

/-- A table of zeros: no window's place reads the table, so the windows' places are decided at this one. -/
def a0 : (pcfg0 (F := Ideal)).Adm := ⟨fun j => match j with | 0 => fun _ => 0#32, trivial⟩

/-- The blocks of each result window cover its array. -/
theorem cov7 (a : (pcfg0 (F := Ideal)).Adm) : ((cfg0 a).win 7).Covers := (by decide +kernel : ((cfg0 a0).win 7).Covers)
/-- The blocks of the new keys' codes cover their array. -/
theorem cov8 (a : (pcfg0 (F := Ideal)).Adm) : ((cfg0 a).win 8).Covers := (by decide +kernel : ((cfg0 a0).win 8).Covers)
/-- The blocks of the new values' codes cover their array. -/
theorem cov9 (a : (pcfg0 (F := Ideal)).Adm) : ((cfg0 a).win 9).Covers := (by decide +kernel : ((cfg0 a0).win 9).Covers)
/-- The blocks of the new values' scales cover their array. -/
theorem cov10 (a : (pcfg0 (F := Ideal)).Adm) : ((cfg0 a).win 10).Covers := (by decide +kernel : ((cfg0 a0).win 10).Covers)

/-- Every window's block of point `t` is block `t` along the batches and block 0 along the other axes. -/
theorem idx0 : ∀ t : Fin grid0.N, (∀ w : Fin 11, ∀ a, (((cfg0 a0).win w).index t) a = if a.val = 0 then t.val else 0) := by decide +kernel
/-- A window's block number at a grid point is the one of the plain table, whatever the prefetched lengths. -/
theorem idx_apply (a : (pcfg0 (F := Ideal)).Adm) (t : Fin grid0.N) (w : Fin 11) (x) : (((cfg0 a).win w).index t) x = if x.val = 0 then t.val else 0 := by
  fin_cases w <;> exact idx0 t _ x
/-- The grid is one line: a point's coordinate is its number. -/
theorem coords : ∀ t : Fin grid0.N, (grid0.coords t 0).val = t.val := by decide +kernel

variable (m : (ℓ : Loc nD τ sig) → Buf (Elt Ideal) ℓ)

/-! ### Where a block's index lies in its array: batch `4 * t + b`, the other coordinates unchanged -/

/-- Where an entry of window 0's block at a grid point lies in the array: batch `p`, the other coordinates its own. -/
theorem emb0 (hO : Ok m) (t : Fin grid0.N) (b : Fin 4) (p : Fin 320) (hp : p.val = 4 * t.val + b.val) (x : Fin 96) (y : Fin 128) :
    (((cfgM m hO).win 0).blk t).view.emb (ix3 b x y) = (ix3 p x y : S320x96x128.Idx) := by
  refine funext fun a => Fin.ext ?_
  refine (Pipeline.Window.rect_emb_val ((cfgM m hO).win 0) t (ix3 b x y) a rfl).trans ?_
  rw [show ((cfgM m hO).win 0).index t a = _ from idx_apply (adm m hO) t 0 a]
  fin_cases a
  · show t.val * 4 + b.val = p.val; omega
  · show 0 * 96 + x.val = x.val; omega
  · show 0 * 128 + y.val = y.val; omega
/-- Where an entry of window 1's block at a grid point lies in the array: batch `p`, the other coordinates its own. -/
theorem emb1 (hO : Ok m) (t : Fin grid0.N) (b : Fin 4) (p : Fin 320) (hp : p.val = 4 * t.val + b.val) (x : Fin 8) (y : Fin 2) (z : Fin 128) :
    (((cfgM m hO).win 1).blk t).view.emb (ix4 b x y z) = (ix4 p x y z : S320x8x2x128.Idx) := by
  refine funext fun a => Fin.ext ?_
  refine (Pipeline.Window.rect_emb_val ((cfgM m hO).win 1) t (ix4 b x y z) a rfl).trans ?_
  rw [show ((cfgM m hO).win 1).index t a = _ from idx_apply (adm m hO) t 1 a]
  fin_cases a
  · show t.val * 4 + b.val = p.val; omega
  · show 0 * 8 + x.val = x.val; omega
  · show 0 * 2 + y.val = y.val; omega
  · show 0 * 128 + z.val = z.val; omega
/-- Where an entry of window 2's block at a grid point lies in the array: batch `p`, the other coordinates its own. -/
theorem emb2 (hO : Ok m) (t : Fin grid0.N) (b : Fin 4) (p : Fin 320) (hp : p.val = 4 * t.val + b.val) (x : Fin 8) (y : Fin 2) (z : Fin 128) :
    (((cfgM m hO).win 2).blk t).view.emb (ix4 b x y z) = (ix4 p x y z : S320x8x2x128.Idx) := by
  refine funext fun a => Fin.ext ?_
  refine (Pipeline.Window.rect_emb_val ((cfgM m hO).win 2) t (ix4 b x y z) a rfl).trans ?_
  rw [show ((cfgM m hO).win 2).index t a = _ from idx_apply (adm m hO) t 2 a]
  fin_cases a
  · show t.val * 4 + b.val = p.val; omega
  · show 0 * 8 + x.val = x.val; omega
  · show 0 * 2 + y.val = y.val; omega
  · show 0 * 128 + z.val = z.val; omega
/-- Where an entry of window 3's block at a grid point lies in the array: batch `p`, the other coordinates its own. -/
theorem emb3 (hO : Ok m) (t : Fin grid0.N) (b : Fin 4) (p : Fin 320) (hp : p.val = 4 * t.val + b.val) (x : Fin 2) (y : Fin 384) (z : Fin 128) :
    (((cfgM m hO).win 3).blk t).view.emb (ix4 b x y z) = (ix4 p x y z : S320x2x384x128.Idx) := by
  refine funext fun a => Fin.ext ?_
  refine (Pipeline.Window.rect_emb_val ((cfgM m hO).win 3) t (ix4 b x y z) a rfl).trans ?_
  rw [show ((cfgM m hO).win 3).index t a = _ from idx_apply (adm m hO) t 3 a]
  fin_cases a
  · show t.val * 4 + b.val = p.val; omega
  · show 0 * 2 + x.val = x.val; omega
  · show 0 * 384 + y.val = y.val; omega
  · show 0 * 128 + z.val = z.val; omega
/-- Where an entry of window 4's block at a grid point lies in the array: batch `p`, the other coordinates its own. -/
theorem emb4 (hO : Ok m) (t : Fin grid0.N) (b : Fin 4) (p : Fin 320) (hp : p.val = 4 * t.val + b.val) (x : Fin 2) (y : Fin 128) :
    (((cfgM m hO).win 4).blk t).view.emb (ix3 b x y) = (ix3 p x y : S320x2x128.Idx) := by
  refine funext fun a => Fin.ext ?_
  refine (Pipeline.Window.rect_emb_val ((cfgM m hO).win 4) t (ix3 b x y) a rfl).trans ?_
  rw [show ((cfgM m hO).win 4).index t a = _ from idx_apply (adm m hO) t 4 a]
  fin_cases a
  · show t.val * 4 + b.val = p.val; omega
  · show 0 * 2 + x.val = x.val; omega
  · show 0 * 128 + y.val = y.val; omega
/-- Where an entry of window 5's block at a grid point lies in the array: batch `p`, the other coordinates its own. -/
theorem emb5 (hO : Ok m) (t : Fin grid0.N) (b : Fin 4) (p : Fin 320) (hp : p.val = 4 * t.val + b.val) (x : Fin 2) (y : Fin 384) (z : Fin 128) :
    (((cfgM m hO).win 5).blk t).view.emb (ix4 b x y z) = (ix4 p x y z : S320x2x384x128.Idx) := by
  refine funext fun a => Fin.ext ?_
  refine (Pipeline.Window.rect_emb_val ((cfgM m hO).win 5) t (ix4 b x y z) a rfl).trans ?_
  rw [show ((cfgM m hO).win 5).index t a = _ from idx_apply (adm m hO) t 5 a]
  fin_cases a
  · show t.val * 4 + b.val = p.val; omega
  · show 0 * 2 + x.val = x.val; omega
  · show 0 * 384 + y.val = y.val; omega
  · show 0 * 128 + z.val = z.val; omega
/-- Where an entry of window 6's block at a grid point lies in the array: batch `p`, the other coordinates its own. -/
theorem emb6 (hO : Ok m) (t : Fin grid0.N) (b : Fin 4) (p : Fin 320) (hp : p.val = 4 * t.val + b.val) (x : Fin 2) (y : Fin 384) :
    (((cfgM m hO).win 6).blk t).view.emb (ix3 b x y) = (ix3 p x y : S320x2x384.Idx) := by
  refine funext fun a => Fin.ext ?_
  refine (Pipeline.Window.rect_emb_val ((cfgM m hO).win 6) t (ix3 b x y) a rfl).trans ?_
  rw [show ((cfgM m hO).win 6).index t a = _ from idx_apply (adm m hO) t 6 a]
  fin_cases a
  · show t.val * 4 + b.val = p.val; omega
  · show 0 * 2 + x.val = x.val; omega
  · show 0 * 384 + y.val = y.val; omega
/-- Where an entry of window 7's block at a grid point lies in the array: batch `p`, the other coordinates its own. -/
theorem emb7 (hO : Ok m) (t : Fin grid0.N) (b : Fin 4) (p : Fin 320) (hp : p.val = 4 * t.val + b.val) (x : Fin 96) (y : Fin 128) :
    (((cfgM m hO).win 7).blk t).view.emb (ix3 b x y) = (ix3 p x y : S320x96x128.Idx) := by
  refine funext fun a => Fin.ext ?_
  refine (Pipeline.Window.rect_emb_val ((cfgM m hO).win 7) t (ix3 b x y) a rfl).trans ?_
  rw [show ((cfgM m hO).win 7).index t a = _ from idx_apply (adm m hO) t 7 a]
  fin_cases a
  · show t.val * 4 + b.val = p.val; omega
  · show 0 * 96 + x.val = x.val; omega
  · show 0 * 128 + y.val = y.val; omega
/-- Where an entry of window 8's block at a grid point lies in the array: batch `p`, the other coordinates its own. -/
theorem emb8 (hO : Ok m) (t : Fin grid0.N) (b : Fin 4) (p : Fin 320) (hp : p.val = 4 * t.val + b.val) (x : Fin 2) (y : Fin 8) (z : Fin 128) :
    (((cfgM m hO).win 8).blk t).view.emb (ix4 b x y z) = (ix4 p x y z : S320x2x8x128.Idx) := by
  refine funext fun a => Fin.ext ?_
  refine (Pipeline.Window.rect_emb_val ((cfgM m hO).win 8) t (ix4 b x y z) a rfl).trans ?_
  rw [show ((cfgM m hO).win 8).index t a = _ from idx_apply (adm m hO) t 8 a]
  fin_cases a
  · show t.val * 4 + b.val = p.val; omega
  · show 0 * 2 + x.val = x.val; omega
  · show 0 * 8 + y.val = y.val; omega
  · show 0 * 128 + z.val = z.val; omega
/-- Where an entry of window 9's block at a grid point lies in the array: batch `p`, the other coordinates its own. -/
theorem emb9 (hO : Ok m) (t : Fin grid0.N) (b : Fin 4) (p : Fin 320) (hp : p.val = 4 * t.val + b.val) (x : Fin 2) (y : Fin 8) (z : Fin 128) :
    (((cfgM m hO).win 9).blk t).view.emb (ix4 b x y z) = (ix4 p x y z : S320x2x8x128.Idx) := by
  refine funext fun a => Fin.ext ?_
  refine (Pipeline.Window.rect_emb_val ((cfgM m hO).win 9) t (ix4 b x y z) a rfl).trans ?_
  rw [show ((cfgM m hO).win 9).index t a = _ from idx_apply (adm m hO) t 9 a]
  fin_cases a
  · show t.val * 4 + b.val = p.val; omega
  · show 0 * 2 + x.val = x.val; omega
  · show 0 * 8 + y.val = y.val; omega
  · show 0 * 128 + z.val = z.val; omega
/-- Where an entry of window 10's block at a grid point lies in the array: batch `p`, the other coordinates its own. -/
theorem emb10 (hO : Ok m) (t : Fin grid0.N) (b : Fin 4) (p : Fin 320) (hp : p.val = 4 * t.val + b.val) (x : Fin 2) (y : Fin 8) (z : Fin 128) :
    (((cfgM m hO).win 10).blk t).view.emb (ix4 b x y z) = (ix4 p x y z : S320x2x8x128.Idx) := by
  refine funext fun a => Fin.ext ?_
  refine (Pipeline.Window.rect_emb_val ((cfgM m hO).win 10) t (ix4 b x y z) a rfl).trans ?_
  rw [show ((cfgM m hO).win 10).index t a = _ from idx_apply (adm m hO) t 10 a]
  fin_cases a
  · show t.val * 4 + b.val = p.val; omega
  · show 0 * 2 + x.val = x.val; omega
  · show 0 * 8 + y.val = y.val; omega
  · show 0 * 128 + z.val = z.val; omega

/-! ### An input block at an index: its array at that place -/

/-- An entry of window 0's block at a grid point is the array's entry at batch `p`. -/
theorem blk0 (hO : Ok m) (c : Dev nD) (t : Fin grid0.N) (b : Fin 4) (p : Fin 320) (hp : p.val = 4 * t.val + b.val) (x : Fin 96) (y : Fin 128) :
    (iblk m hO c 0 t : Vec Ideal S4x96x128 .bf16) (ix3 b x y) = (V m c main_v1 : Vec Ideal S320x96x128 .bf16) (ix3 p x y) :=
  congrArg (V m c main_v1 : Vec Ideal S320x96x128 .bf16) (emb0 m hO t b p hp x y)
/-- An entry of window 1's block at a grid point is the array's entry at batch `p`. -/
theorem blk1 (hO : Ok m) (c : Dev nD) (t : Fin grid0.N) (b : Fin 4) (p : Fin 320) (hp : p.val = 4 * t.val + b.val) (x : Fin 8) (y : Fin 2) (z : Fin 128) :
    (iblk m hO c 1 t : Vec Ideal S4x8x2x128 .bf16) (ix4 b x y z) = (V m c main_arg1 : Vec Ideal S320x8x2x128 .bf16) (ix4 p x y z) :=
  congrArg (V m c main_arg1 : Vec Ideal S320x8x2x128 .bf16) (emb1 m hO t b p hp x y z)
/-- An entry of window 2's block at a grid point is the array's entry at batch `p`. -/
theorem blk2 (hO : Ok m) (c : Dev nD) (t : Fin grid0.N) (b : Fin 4) (p : Fin 320) (hp : p.val = 4 * t.val + b.val) (x : Fin 8) (y : Fin 2) (z : Fin 128) :
    (iblk m hO c 2 t : Vec Ideal S4x8x2x128 .bf16) (ix4 b x y z) = (V m c main_arg2 : Vec Ideal S320x8x2x128 .bf16) (ix4 p x y z) :=
  congrArg (V m c main_arg2 : Vec Ideal S320x8x2x128 .bf16) (emb2 m hO t b p hp x y z)
/-- An entry of window 3's block at a grid point is the array's entry at batch `p`. -/
theorem blk3 (hO : Ok m) (c : Dev nD) (t : Fin grid0.N) (b : Fin 4) (p : Fin 320) (hp : p.val = 4 * t.val + b.val) (x : Fin 2) (y : Fin 384) (z : Fin 128) :
    (iblk m hO c 3 t : Vec Ideal S4x2x384x128 .i8) (ix4 b x y z) = (V m c main_v2 : Vec Ideal S320x2x384x128 .i8) (ix4 p x y z) :=
  congrArg (V m c main_v2 : Vec Ideal S320x2x384x128 .i8) (emb3 m hO t b p hp x y z)
/-- An entry of window 4's block at a grid point is the array's entry at batch `p`. -/
theorem blk4 (hO : Ok m) (c : Dev nD) (t : Fin grid0.N) (b : Fin 4) (p : Fin 320) (hp : p.val = 4 * t.val + b.val) (x : Fin 2) (y : Fin 128) :
    (iblk m hO c 4 t : Vec Ideal S4x2x128 .f32) (ix3 b x y) = (V m c main_arg4 : Vec Ideal S320x2x128 .f32) (ix3 p x y) :=
  congrArg (V m c main_arg4 : Vec Ideal S320x2x128 .f32) (emb4 m hO t b p hp x y)
/-- An entry of window 5's block at a grid point is the array's entry at batch `p`. -/
theorem blk5 (hO : Ok m) (c : Dev nD) (t : Fin grid0.N) (b : Fin 4) (p : Fin 320) (hp : p.val = 4 * t.val + b.val) (x : Fin 2) (y : Fin 384) (z : Fin 128) :
    (iblk m hO c 5 t : Vec Ideal S4x2x384x128 .i8) (ix4 b x y z) = (V m c main_v3 : Vec Ideal S320x2x384x128 .i8) (ix4 p x y z) :=
  congrArg (V m c main_v3 : Vec Ideal S320x2x384x128 .i8) (emb5 m hO t b p hp x y z)
/-- An entry of window 6's block at a grid point is the array's entry at batch `p`. -/
theorem blk6 (hO : Ok m) (c : Dev nD) (t : Fin grid0.N) (b : Fin 4) (p : Fin 320) (hp : p.val = 4 * t.val + b.val) (x : Fin 2) (y : Fin 384) :
    (iblk m hO c 6 t : Vec Ideal S4x2x384 .f32) (ix3 b x y) = (V m c main_v4 : Vec Ideal S320x2x384 .f32) (ix3 p x y) :=
  congrArg (V m c main_v4 : Vec Ideal S320x2x384 .f32) (emb6 m hO t b p hp x y)

/-! ### What a point leaves in the four result blocks -/

set_option maxHeartbeats 1600000 in
theorem outs7 (hO : Ok m) (c : Dev nD) (t : Fin (cfgM m hO).N) (x0 : Vec Ideal S4x96x128 .bf16) (x1 x2 : Vec Ideal S4x8x2x128 .bf16) (x3 : Vec Ideal S4x2x384x128 .i8) (x4 : Vec Ideal S4x2x128 .f32)
    (x5 : Vec Ideal S4x2x384x128 .i8) (x6 : Vec Ideal S4x2x384 .f32) (T : Vec Ideal S320 .i32)
    (h0 : iblk m hO c 0 t = x0) (h1 : iblk m hO c 1 t = x1) (h2 : iblk m hO c 2 t = x2) (h3 : iblk m hO c 3 t = x3) (h4 : iblk m hO c 4 t = x4)
    (h5 : iblk m hO c 5 t = x5) (h6 : iblk m hO c 6 t = x6) (hT : tbl m 0 = T) :
    (outsAt0 m hO c t).1 = Block.G7 x0 x1 x2 x3 x4 x5 x6 (Block.len T (grid0.coords t)) := by
  subst h0 h1 h2 h3 h4 h5 h6 hT
  unfold outsAt0
  exact Block.out7 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (iblk m hO c 0 t) (iblk m hO c 1 t) (iblk m hO c 2 t) (iblk m hO c 3 t) (iblk m hO c 4 t) (iblk m hO c 5 t) (iblk m hO c 6 t) (tbl m 0)

set_option maxHeartbeats 1600000 in
theorem outs8 (hO : Ok m) (c : Dev nD) (t : Fin (cfgM m hO).N) (x0 : Vec Ideal S4x96x128 .bf16) (x1 x2 : Vec Ideal S4x8x2x128 .bf16) (x3 : Vec Ideal S4x2x384x128 .i8) (x4 : Vec Ideal S4x2x128 .f32)
    (x5 : Vec Ideal S4x2x384x128 .i8) (x6 : Vec Ideal S4x2x384 .f32) (T : Vec Ideal S320 .i32)
    (h0 : iblk m hO c 0 t = x0) (h1 : iblk m hO c 1 t = x1) (h2 : iblk m hO c 2 t = x2) (h3 : iblk m hO c 3 t = x3) (h4 : iblk m hO c 4 t = x4)
    (h5 : iblk m hO c 5 t = x5) (h6 : iblk m hO c 6 t = x6) (hT : tbl m 0 = T) :
    (outsAt0 m hO c t).2.1 = Block.G8 x1 x4 := by
  subst h0 h1 h2 h3 h4 h5 h6 hT
  unfold outsAt0
  exact Block.out8 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (iblk m hO c 0 t) (iblk m hO c 1 t) (iblk m hO c 2 t) (iblk m hO c 3 t) (iblk m hO c 4 t) (iblk m hO c 5 t) (iblk m hO c 6 t) (tbl m 0)

set_option maxHeartbeats 1600000 in
theorem outs9 (hO : Ok m) (c : Dev nD) (t : Fin (cfgM m hO).N) (x0 : Vec Ideal S4x96x128 .bf16) (x1 x2 : Vec Ideal S4x8x2x128 .bf16) (x3 : Vec Ideal S4x2x384x128 .i8) (x4 : Vec Ideal S4x2x128 .f32)
    (x5 : Vec Ideal S4x2x384x128 .i8) (x6 : Vec Ideal S4x2x384 .f32) (T : Vec Ideal S320 .i32)
    (h0 : iblk m hO c 0 t = x0) (h1 : iblk m hO c 1 t = x1) (h2 : iblk m hO c 2 t = x2) (h3 : iblk m hO c 3 t = x3) (h4 : iblk m hO c 4 t = x4)
    (h5 : iblk m hO c 5 t = x5) (h6 : iblk m hO c 6 t = x6) (hT : tbl m 0 = T) :
    (outsAt0 m hO c t).2.2.1 = Block.G9 x2 := by
  subst h0 h1 h2 h3 h4 h5 h6 hT
  unfold outsAt0
  exact Block.out9 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (iblk m hO c 0 t) (iblk m hO c 1 t) (iblk m hO c 2 t) (iblk m hO c 3 t) (iblk m hO c 4 t) (iblk m hO c 5 t) (iblk m hO c 6 t) (tbl m 0)

set_option maxHeartbeats 1600000 in
theorem outs10 (hO : Ok m) (c : Dev nD) (t : Fin (cfgM m hO).N) (x0 : Vec Ideal S4x96x128 .bf16) (x1 x2 : Vec Ideal S4x8x2x128 .bf16) (x3 : Vec Ideal S4x2x384x128 .i8) (x4 : Vec Ideal S4x2x128 .f32)
    (x5 : Vec Ideal S4x2x384x128 .i8) (x6 : Vec Ideal S4x2x384 .f32) (T : Vec Ideal S320 .i32)
    (h0 : iblk m hO c 0 t = x0) (h1 : iblk m hO c 1 t = x1) (h2 : iblk m hO c 2 t = x2) (h3 : iblk m hO c 3 t = x3) (h4 : iblk m hO c 4 t = x4)
    (h5 : iblk m hO c 5 t = x5) (h6 : iblk m hO c 6 t = x6) (hT : tbl m 0 = T) :
    (outsAt0 m hO c t).2.2.2 = Block.G10 x2 := by
  subst h0 h1 h2 h3 h4 h5 h6 hT
  unfold outsAt0
  exact Block.out10 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (iblk m hO c 0 t) (iblk m hO c 1 t) (iblk m hO c 2 t) (iblk m hO c 3 t) (iblk m hO c 4 t) (iblk m hO c 5 t) (iblk m hO c 6 t) (tbl m 0)

end Cert.Arrays

end
-- ==== Proof.Arrays.lean ====
/- UNTRUSTED. What the four result arrays of the pipeline hold after the run, as functions of the seven input arrays and the
   table. -/
module

public import proofs.«01_k».proof.Proof.Places

@[expose] public section

set_option maxRecDepth 16384

noncomputable section

namespace Cert.Arrays

open Idealize.ShloMosaic Idealize.ShloMosaic.TcCoe Idealize.ShloMosaic.Tactic Idealize.SL.Sem Cert.KernelIdeal Cert.KernelIdeal.Gen

variable (m : (ℓ : Loc nD τ sig) → Buf (Elt Ideal) ℓ)

/-- The output array: at batch `p`, row `r` and column `d` the row of attention over that batch's lanes. -/
def A7 (X0 : Vec Ideal S320x96x128 .bf16) (X1 X2 : Vec Ideal S320x8x2x128 .bf16) (X3 : Vec Ideal S320x2x384x128 .i8) (X4 : Vec Ideal S320x2x128 .f32)
    (X5 : Vec Ideal S320x2x384x128 .i8) (X6 : Vec Ideal S320x2x384 .f32) (T : Vec Ideal S320 .i32) (p : Fin 320) (k : Fin 2) (r : Fin 96) (d : Fin 128) : EReal :=
  Row.refRow (fun t : Fin 384 => if (t.val : ℤ) < (T (ix1 p)).toInt then Ideal.div (∑ x : Fin 128, FloatOps.sitofp (F := Ideal) .bf16 (X3 (ix4 p k t x)) * X4 (ix3 p k x) * X0 (ix3 p r x)) (Ideal.sqrt ((128 : ℝ) : EReal)) else ⊥)
    (fun j : Fin 8 => if j.val ≤ r.val % 8 then Ideal.div (∑ x : Fin 128, X1 (ix4 p j k x) * X0 (ix3 p r x)) (Ideal.sqrt ((128 : ℝ) : EReal)) else ⊥)
    (fun t => X6 (ix3 p k t)) (fun t => FloatOps.sitofp (F := Ideal) .bf16 (X5 (ix4 p k t d))) (fun j => X2 (ix4 p j k d))

/-- The new keys' codes. -/
def A8 (X1 : Vec Ideal S320x8x2x128 .bf16) (X4 : Vec Ideal S320x2x128 .f32) : Vec Ideal S320x2x8x128 .i8 :=
  fun i => Block.code (X1 (ix4 (i 0) (i 2) (i 1) (i 3))) (X4 (ix3 (i 0) (i 1) (i 3)))

/-- The new values' codes. -/
def A9 (X2 : Vec Ideal S320x8x2x128 .bf16) : Vec Ideal S320x2x8x128 .i8 :=
  fun i => Block.code (X2 (ix4 (i 0) (i 2) (i 1) (i 3))) (Block.vScale fun d => X2 (ix4 (i 0) (i 2) (i 1) d))

/-- The new values' scales. -/
def A10 (X2 : Vec Ideal S320x8x2x128 .bf16) : Vec Ideal S320x2x8x128 .f32 :=
  fun i => Block.vScale fun d => X2 (ix4 (i 0) (i 2) (i 1) d)

/-- A grid point and a batch of its block name a batch of the array. -/
theorem lt320 (t : Fin grid0.N) (b : Fin 4) : 4 * t.val + b.val < 320 := by
  have h : t.val < 80 := t.isLt
  omega

/-- A block's attention is the array's, where the block's entries are the array's at batch `p`. -/
theorem A7_of_block (x0 : Vec Ideal S4x96x128 .bf16) (x1 x2 : Vec Ideal S4x8x2x128 .bf16) (x3 : Vec Ideal S4x2x384x128 .i8) (x4 : Vec Ideal S4x2x128 .f32)
    (x5 : Vec Ideal S4x2x384x128 .i8) (x6 : Vec Ideal S4x2x384 .f32) (n : Fin 4 → BitVec 32)
    (X0 : Vec Ideal S320x96x128 .bf16) (X1 X2 : Vec Ideal S320x8x2x128 .bf16) (X3 : Vec Ideal S320x2x384x128 .i8) (X4 : Vec Ideal S320x2x128 .f32)
    (X5 : Vec Ideal S320x2x384x128 .i8) (X6 : Vec Ideal S320x2x384 .f32) (T : Vec Ideal S320 .i32) (b : Fin 4) (p : Fin 320)
    (h0 : ∀ y z, x0 (ix3 b y z) = X0 (ix3 p y z)) (h1 : ∀ y z w, x1 (ix4 b y z w) = X1 (ix4 p y z w)) (h2 : ∀ y z w, x2 (ix4 b y z w) = X2 (ix4 p y z w))
    (h3 : ∀ y z w, x3 (ix4 b y z w) = X3 (ix4 p y z w)) (h4 : ∀ y z, x4 (ix3 b y z) = X4 (ix3 p y z)) (h5 : ∀ y z w, x5 (ix4 b y z w) = X5 (ix4 p y z w))
    (h6 : ∀ y z, x6 (ix3 b y z) = X6 (ix3 p y z)) (hl : n b = T (ix1 p)) (hn : (T (ix1 p)).toInt ≤ 2147483631)
    (r : Fin 96) (d : Fin 128) (k : Fin 2) (hk : r.val / 48 = k.val) :
    Block.G7 x0 x1 x2 x3 x4 x5 x6 n (ix3 b r d) = A7 X0 X1 X2 X3 X4 X5 X6 T p k r d := by
  rw [Block.G7_apply x0 x1 x2 x3 x4 x5 x6 n b (by rw [hl]; exact hn) r d k hk]
  simp only [h0, h1, h2, h3, h4, h5, h6, hl]
  rfl

set_option maxHeartbeats 1600000 in
/-- The output array after the run, where no length reaches the words at which adding a block of lanes wraps. -/
theorem arr7 (hO : Ok m) (c : Dev nD) (T : Vec Ideal S320 .i32) (hT : tbl m 0 = T) (hn : ∀ p : Fin 320, (T (ix1 p)).toInt ≤ 2147483631) :
    (dats m hO 0 c).arrAt 7 (cfgM m hO).N = (fun i => A7 (V m c main_v1) (V m c main_arg1) (V m c main_arg2) (V m c main_v2) (V m c main_arg4) (V m c main_v3) (V m c main_v4) T
      (i 0) ⟨(i 1).val / 48, Nat.div_lt_of_lt_mul (i 1).isLt⟩ (i 1) (i 2) : Vec Ideal S320x96x128 .bf16) := by
  refine (dats m hO 0 c).arrAt_eq_of_covers 7 _ (cov7 (adm m hO)) fun t _ y => ?_
  rw [after0_7, outs7 m hO c t _ _ _ _ _ _ _ T rfl rfl rfl rfl rfl rfl rfl hT]
  change S4x96x128.Idx at y
  idx_vars y
  have hl : Block.len T (grid0.coords t) y0 = T (ix1 ⟨4 * t.val + y0.val, lt320 t y0⟩) := Block.len_eq T _ y0 _ (by rw [coords t])
  refine Eq.trans ?_ (congrArg (fun i : S320x96x128.Idx => A7 (V m c main_v1) (V m c main_arg1) (V m c main_arg2) (V m c main_v2) (V m c main_arg4) (V m c main_v3) (V m c main_v4) T
      (i 0) ⟨(i 1).val / 48, Nat.div_lt_of_lt_mul (i 1).isLt⟩ (i 1) (i 2)) (emb7 m hO t y0 ⟨4 * t.val + y0.val, lt320 t y0⟩ rfl y1 y2)).symm
  exact A7_of_block (iblk m hO c 0 t) (iblk m hO c 1 t) (iblk m hO c 2 t) (iblk m hO c 3 t) (iblk m hO c 4 t) (iblk m hO c 5 t) (iblk m hO c 6 t)
    (Block.len T (grid0.coords t)) (V m c main_v1) (V m c main_arg1) (V m c main_arg2) (V m c main_v2) (V m c main_arg4) (V m c main_v3) (V m c main_v4) T
    y0 ⟨4 * t.val + y0.val, lt320 t y0⟩ (blk0 m hO c t y0 _ rfl) (blk1 m hO c t y0 _ rfl) (blk2 m hO c t y0 _ rfl) (blk3 m hO c t y0 _ rfl)
    (blk4 m hO c t y0 _ rfl) (blk5 m hO c t y0 _ rfl) (blk6 m hO c t y0 _ rfl) hl (hn _) y1 y2 ⟨y1.val / 48, Nat.div_lt_of_lt_mul y1.isLt⟩ rfl

/-- The array of the new keys' codes after the run. -/
theorem arr8 (hO : Ok m) (c : Dev nD) : (dats m hO 0 c).arrAt 8 (cfgM m hO).N = A8 (V m c main_arg1) (V m c main_arg4) := by
  refine (dats m hO 0 c).arrAt_eq_of_covers 8 _ (cov8 (adm m hO)) fun t _ y => ?_
  rw [after0_8, outs8 m hO c t _ _ _ _ _ _ _ _ rfl rfl rfl rfl rfl rfl rfl rfl]
  change S4x2x8x128.Idx at y
  idx_vars y
  refine Eq.trans ?_ (congrArg (A8 (V m c main_arg1) (V m c main_arg4)) (emb8 m hO t y0 ⟨4 * t.val + y0.val, lt320 t y0⟩ rfl y1 y2 y3)).symm
  exact congrArg₂ Block.code (blk1 m hO c t y0 _ rfl y2 y1 y3) (blk4 m hO c t y0 _ rfl y1 y3)

/-- The array of the new values' codes after the run. -/
theorem arr9 (hO : Ok m) (c : Dev nD) : (dats m hO 0 c).arrAt 9 (cfgM m hO).N = A9 (V m c main_arg2) := by
  refine (dats m hO 0 c).arrAt_eq_of_covers 9 _ (cov9 (adm m hO)) fun t _ y => ?_
  rw [after0_9, outs9 m hO c t _ _ _ _ _ _ _ _ rfl rfl rfl rfl rfl rfl rfl rfl]
  change S4x2x8x128.Idx at y
  idx_vars y
  refine Eq.trans ?_ (congrArg (A9 (V m c main_arg2)) (emb9 m hO t y0 ⟨4 * t.val + y0.val, lt320 t y0⟩ rfl y1 y2 y3)).symm
  exact congrArg₂ Block.code (blk2 m hO c t y0 _ rfl y2 y1 y3) (congrArg Block.vScale (funext fun d => blk2 m hO c t y0 _ rfl y2 y1 d))

/-- The array of the new values' scales after the run. -/
theorem arr10 (hO : Ok m) (c : Dev nD) : (dats m hO 0 c).arrAt 10 (cfgM m hO).N = A10 (V m c main_arg2) := by
  refine (dats m hO 0 c).arrAt_eq_of_covers 10 _ (cov10 (adm m hO)) fun t _ y => ?_
  rw [after0_10, outs10 m hO c t _ _ _ _ _ _ _ _ rfl rfl rfl rfl rfl rfl rfl rfl]
  change S4x2x8x128.Idx at y
  idx_vars y
  refine Eq.trans ?_ (congrArg (A10 (V m c main_arg2)) (emb10 m hO t y0 ⟨4 * t.val + y0.val, lt320 t y0⟩ rfl y1 y2 y3)).symm
  exact congrArg Block.vScale (funext fun d => blk2 m hO c t y0 _ rfl y2 y1 d)

end Cert.Arrays

end
-- ==== Proof.RefRead.lean ====
/- UNTRUSTED. The reference's attention output, in stages, read at one index down to extended reals. -/
module

public import proofs.«01_k».proof.Proof.Gen.ReferenceIdeal.Run
public import proofs.«01_k».proof.Proof.Row

@[expose] public section

set_option maxRecDepth 16384

noncomputable section

namespace Cert.RefRead

open Idealize.ShloMosaic Idealize.ShloMosaic.TcCoe Idealize.ShloMosaic.Tactic Idealize.SL.Sem Cert.ReferenceIdeal Cert.ReferenceIdeal.Gen

/-- The host's maximum along the last of five axes, at any sizes. -/
theorem reduce5 {n0 n1 n2 n3 n4 : ℕ} (C : FVec Ideal ⟨5, ![n0, n1, n2, n3, n4]⟩ .f32) (b : BitVec 32)
    (h : (⟨5, ![n0, n1, n2, n3, n4]⟩ : Shape).ReducesTo [4] ⟨4, ![n0, n1, n2, n3]⟩) (hu : 0 < (⟨0, ![]⟩ : Shape).numel)
    (i0 : Fin n0) (i1 : Fin n1) (i2 : Fin n2) (i3 : Fin n3) :
    Host.reduce FloatOps.maximumf C (constant ⟨0, ![]⟩ .f32 b) h hu (ix4 i0 i1 i2 i3)
      = Finset.univ.fold max (Ideal.ofBits .f32 b) fun k => C (ix5 i0 i1 i2 i3 k) := by
  rw [Host.reduce_eq_fold, Shape.ReducesTo.fold_fiber_r5_a4]
  rfl

/-- The host's maximum along the last of four axes, at any sizes. -/
theorem reduce4 {n0 n1 n2 n3 : ℕ} (C : FVec Ideal ⟨4, ![n0, n1, n2, n3]⟩ .f32) (b : BitVec 32)
    (h : (⟨4, ![n0, n1, n2, n3]⟩ : Shape).ReducesTo [3] ⟨3, ![n0, n1, n2]⟩) (hu : 0 < (⟨0, ![]⟩ : Shape).numel)
    (i0 : Fin n0) (i1 : Fin n1) (i2 : Fin n2) :
    Host.reduce FloatOps.maximumf C (constant ⟨0, ![]⟩ .f32 b) h hu (ix3 i0 i1 i2)
      = Finset.univ.fold max (Ideal.ofBits .f32 b) fun k => C (ix4 i0 i1 i2 k) := by
  rw [Host.reduce_eq_fold, Shape.ReducesTo.fold_fiber_r4_a3]
  rfl

variable {F : FTy → Type} [FloatOps F]

/-- The cached scores, divided by the root of the head width, masked beyond the length. -/
def sC (a0 : FVec F S320x8x12x128 .bf16) (a3 : Vec F S320x384x2x128 .i8) (a4 : FVec F S320x2x128 .f32) (a7 : Vec F S320 .i32) :
    FVec F S320x8x2x6x384 .f32 :=
  select (broadcastInDim S320x8x2x6x384 ![0,1,2,3,4] bcast_S320x1x1x1x384_S320x8x2x6x384_0_1_2_3_4 (broadcastInDim S320x1x1x1x384 ![0,4] bcast_S320x384_S320x1x1x1x384_0_4 (cmpi .slt (broadcastInDim S320x384 ![0,1] bcast_S1x384_S320x384_0_1 (broadcastInDim S1x384 ![1] bcast_S384_S1x384_1 (iotaInDim S384 32 0))) (broadcastInDim S320x384 ![0,1] bcast_S320x1_S320x384_0_1 (broadcastInDim S320x1 ![0] bcast_S320_S320x1_0 a7))))) (Host.divf (transpose S320x8x2x6x384 [0,3,1,4,2] (Host.dotGeneral dot_S320x384x2x128_S320x8x2x6x128_S320x2x384x8x6_3_4_1_13_02_02 none (mulf (sitofp .bf16 (extsi 32 a3 natLt_8_32)) (broadcastInDim S320x384x2x128 ![0,1,2,3] bcast_S320x1x2x128_S320x384x2x128_0_1_2_3 (broadcastInDim S320x1x2x128 ![0,2,3] bcast_S320x2x128_S320x1x2x128_0_2_3 (truncf .bf16 a4 bitsLt_bf16_f32)))) (shapeCast _ a0 shapeCasts_S320x8x12x128_S320x8x2x6x128)) transposes_S320x2x384x8x6_S320x8x2x6x384_0_3_1_4_2) (broadcastInDim S320x8x2x6x384 ![] bcast_S_S320x8x2x6x384 (Host.sqrt (constant S_ .f32 0x43000000#32)))) (broadcastInDim S320x8x2x6x384 ![] bcast_S_S320x8x2x6x384 (id (constant S_ .f32 0xFF800000#32)))

/-- The new scores, divided by the root of the head width, masked above the diagonal. -/
def sN (a0 : FVec F S320x8x12x128 .bf16) (a1 : FVec F S320x8x2x128 .bf16) : FVec F S320x8x2x6x8 .f32 :=
  select (broadcastInDim S320x8x2x6x8 ![0,1,2,3,4] bcast_S1x8x1x1x8_S320x8x2x6x8_0_1_2_3_4 (broadcastInDim S1x8x1x1x8 ![1,4] bcast_S8x8_S1x8x1x1x8_1_4 (cmpi .sle (broadcastInDim S8x8 ![0,1] bcast_S1x8_S8x8_0_1 (broadcastInDim S1x8 ![1] bcast_S8_S1x8_1 (iotaInDim S8 32 0))) (broadcastInDim S8x8 ![0,1] bcast_S8x1_S8x8_0_1 (broadcastInDim S8x1 ![0] bcast_S8_S8x1_0 (iotaInDim S8 32 0)))))) (Host.divf (transpose S320x8x2x6x8 [0,3,1,4,2] (Host.dotGeneral dot_S320x8x2x128_S320x8x2x6x128_S320x2x8x8x6_3_4_1_13_02_02 none a1 (shapeCast _ a0 shapeCasts_S320x8x12x128_S320x8x2x6x128)) transposes_S320x2x8x8x6_S320x8x2x6x8_0_3_1_4_2) (broadcastInDim S320x8x2x6x8 ![] bcast_S_S320x8x2x6x8 (Host.sqrt (constant S_ .f32 0x43000000#32)))) (broadcastInDim S320x8x2x6x8 ![] bcast_S_S320x8x2x6x8 (id (constant S_ .f32 0xFF800000#32)))

/-- The cached scores' row maxima. -/
def redC (C : FVec F S320x8x2x6x384 .f32) : FVec F S320x8x2x6 .f32 :=
  Host.reduce FloatOps.maximumf C (constant S_ .f32 0xFF800000#32) reducesTo_S320x8x2x6x384_S320x8x2x6_d4 h_S_

/-- The new scores' row maxima. -/
def redN (N : FVec F S320x8x2x6x8 .f32) : FVec F S320x8x2x6 .f32 :=
  Host.reduce FloatOps.maximumf N (constant S_ .f32 0xFF800000#32) reducesTo_S320x8x2x6x8_S320x8x2x6_d4 h_S_

/-- The larger of two row maxima. -/
def mxOf (U W : FVec F S320x8x2x6 .f32) : FVec F S320x8x2x6x1 .f32 :=
  broadcastInDim S320x8x2x6x1 ![0,1,2,3] bcast_S320x8x2x6_S320x8x2x6x1_0_1_2_3 (maximumf U W)

/-- The larger of the two pieces' row maxima. -/
def mx (C : FVec F S320x8x2x6x384 .f32) (N : FVec F S320x8x2x6x8 .f32) : FVec F S320x8x2x6x1 .f32 := mxOf (redC C) (redN N)

/-- The cached exponentials. -/
def eC (C : FVec F S320x8x2x6x384 .f32) (M : FVec F S320x8x2x6x1 .f32) : FVec F S320x8x2x6x384 .f32 :=
  Host.exp (subf C (broadcastInDim S320x8x2x6x384 ![0,1,2,3,4] bcast_S320x8x2x6x1_S320x8x2x6x384_0_1_2_3_4 M))

/-- The new exponentials. -/
def eN (N : FVec F S320x8x2x6x8 .f32) (M : FVec F S320x8x2x6x1 .f32) : FVec F S320x8x2x6x8 .f32 :=
  Host.exp (subf N (broadcastInDim S320x8x2x6x8 ![0,1,2,3,4] bcast_S320x8x2x6x1_S320x8x2x6x8_0_1_2_3_4 M))

/-- One over the sum of all exponentials. -/
def inv (E : FVec F S320x8x2x6x384 .f32) (E' : FVec F S320x8x2x6x8 .f32) : FVec F S320x8x2x6x1 .f32 :=
  Host.divf (broadcastInDim S320x8x2x6x1 ![] bcast_S_S320x8x2x6x1 (constant S_ .f32 0x3F800000#32)) (addf (broadcastInDim S320x8x2x6x1 ![0,1,2,3] bcast_S320x8x2x6_S320x8x2x6x1_0_1_2_3 (Host.reduceAdd E (constant S_ .f32 0x00000000#32) reducesTo_S320x8x2x6x384_S320x8x2x6_d4 h_S_)) (broadcastInDim S320x8x2x6x1 ![0,1,2,3] bcast_S320x8x2x6_S320x8x2x6x1_0_1_2_3 (Host.reduceAdd E' (constant S_ .f32 0x00000000#32) reducesTo_S320x8x2x6x8_S320x8x2x6_d4 h_S_)))

/-- The weighted sums of the cached and of the new values, added. -/
def out (a2 : FVec F S320x8x2x128 .bf16) (a5 : Vec F S320x384x2x128 .i8) (a6 : FVec F S320x384x2 .f32) (E : FVec F S320x8x2x6x384 .f32) (E' : FVec F S320x8x2x6x8 .f32)
    (I : FVec F S320x8x2x6x1 .f32) : FVec F S320x8x12x128 .bf16 :=
  shapeCast _ (truncf .bf16 (addf (transpose S320x8x2x6x128 [0,3,1,4,2] (Host.dotGeneral dot_S320x384x2x128_S320x8x2x6x384_S320x2x128x8x6_1_4_3_13_02_02 none (sitofp .bf16 (extsi 32 a5 natLt_8_32)) (truncf .bf16 (mulf (mulf E (broadcastInDim S320x8x2x6x384 ![0,1,2,3,4] bcast_S320x8x2x6x1_S320x8x2x6x384_0_1_2_3_4 I)) (broadcastInDim S320x8x2x6x384 ![0,1,2,3,4] bcast_S320x1x2x1x384_S320x8x2x6x384_0_1_2_3_4 (broadcastInDim S320x1x2x1x384 ![0,2,4] bcast_S320x2x384_S320x1x2x1x384_0_2_4 (transpose S320x2x384 [0,2,1] a6 transposes_S320x384x2_S320x2x384_0_2_1)))) bitsLt_bf16_f32)) transposes_S320x2x128x8x6_S320x8x2x6x128_0_3_1_4_2) (transpose S320x8x2x6x128 [0,3,1,4,2] (Host.dotGeneral dot_S320x8x2x128_S320x8x2x6x8_S320x2x128x8x6_1_4_3_13_02_02 none a2 (truncf .bf16 (mulf E' (broadcastInDim S320x8x2x6x8 ![0,1,2,3,4] bcast_S320x8x2x6x1_S320x8x2x6x8_0_1_2_3_4 I)) bitsLt_bf16_f32)) transposes_S320x2x128x8x6_S320x8x2x6x128_0_3_1_4_2)) bitsLt_bf16_f32) shapeCasts_S320x8x2x6x128_S320x8x12x128

/-- The stages put together. -/
def attn (C : FVec F S320x8x2x6x384 .f32) (N : FVec F S320x8x2x6x8 .f32) (a2 : FVec F S320x8x2x128 .bf16) (a5 : Vec F S320x384x2x128 .i8) (a6 : FVec F S320x384x2 .f32) :
    FVec F S320x8x12x128 .bf16 :=
  out a2 a5 a6 (eC C (mx C N)) (eN N (mx C N)) (inv (eC C (mx C N)) (eN N (mx C N)))

/-- The reference's first result is the stages of its arguments. -/
theorem res_eq (m : (ℓ : Loc nD τ sig) → Buf (Elt F) ℓ) (c : Dev nD) :
    Value.res_main_v94 m c = attn (sC (m ((c.tc : Thread nD τ).loc main_arg0)) (m ((c.tc : Thread nD τ).loc main_arg3)) (m ((c.tc : Thread nD τ).loc main_arg4)) (m ((c.tc : Thread nD τ).loc main_arg7)))
      (sN (m ((c.tc : Thread nD τ).loc main_arg0)) (m ((c.tc : Thread nD τ).loc main_arg1))) (m ((c.tc : Thread nD τ).loc main_arg2)) (m ((c.tc : Thread nD τ).loc main_arg5)) (m ((c.tc : Thread nD τ).loc main_arg6)) := rfl

/-! ## The stages at an index -/

/-- A cached score: the scaled product over the root of the width, `⊥` from the length on. -/
def cScore (a0 : FVec Ideal S320x8x12x128 .bf16) (a3 : Vec Ideal S320x384x2x128 .i8) (a4 : FVec Ideal S320x2x128 .f32) (a7 : Vec Ideal S320 .i32)
    (b : Fin 320) (s : Fin 8) (h : Fin 12) (k : Fin 2) (t : Fin 384) : EReal :=
  if (t.val : ℤ) < (a7 (ix1 b)).toInt then
    Ideal.div (∑ x : Fin 128, FloatOps.sitofp (F := Ideal) .bf16 (BitVec.signExtend 32 (a3 (ix4 b t k x))) * a4 (ix3 b k x) * a0 (ix4 b s h x))
      (Ideal.sqrt ((128 : ℝ) : EReal))
  else ⊥

/-- A new score: the product over the root of the width, `⊥` above the diagonal. -/
def nScore (a0 : FVec Ideal S320x8x12x128 .bf16) (a1 : FVec Ideal S320x8x2x128 .bf16)
    (b : Fin 320) (s : Fin 8) (h : Fin 12) (k : Fin 2) (j : Fin 8) : EReal :=
  if j.val ≤ s.val then Ideal.div (∑ x : Fin 128, a1 (ix4 b j k x) * a0 (ix4 b s h x)) (Ideal.sqrt ((128 : ℝ) : EReal)) else ⊥

/-- The cached scores at one index. -/
theorem sC_apply (a0 : FVec Ideal S320x8x12x128 .bf16) (a3 : Vec Ideal S320x384x2x128 .i8) (a4 : FVec Ideal S320x2x128 .f32) (a7 : Vec Ideal S320 .i32)
    (b : Fin 320) (s : Fin 8) (k : Fin 2) (g : Fin 6) (t : Fin 384) :
    sC a0 a3 a4 a7 (ix5 b s k g t) = cScore a0 a3 a4 a7 b s ⟨k.val * 6 + g.val, by omega⟩ k t := by
  pointwise [sC]
  have ht : (BitVec.ofNat 32 t.val).toInt = t.val := by
    rw [BitVec.toInt_eq_toNat_cond, BitVec.toNat_ofNat]; have := t.isLt; omega
  rw [Row.ofBits_128, Row.select_slt, ht, cScore]
  exact if_congr Iff.rfl rfl Row.ofBits_bot

/-- The new scores at one index. -/
theorem sN_apply (a0 : FVec Ideal S320x8x12x128 .bf16) (a1 : FVec Ideal S320x8x2x128 .bf16)
    (b : Fin 320) (s : Fin 8) (k : Fin 2) (g : Fin 6) (t : Fin 8) :
    sN a0 a1 (ix5 b s k g t) = nScore a0 a1 b s ⟨k.val * 6 + g.val, by omega⟩ k t := by
  pointwise [sN]
  have ht : ∀ t : Fin 8, (BitVec.ofNat 32 t.val).toInt = t.val := by decide
  rw [Row.ofBits_128, Row.select_sle, ht, ht, nScore]
  exact if_congr (by simp) rfl Row.ofBits_bot

/-- The cached scores' maximum at one index. -/
theorem redC_apply (C : FVec Ideal S320x8x2x6x384 .f32) (b : Fin 320) (s : Fin 8) (k : Fin 2) (g : Fin 6) :
    redC C (ix4 b s k g) = Finset.univ.fold max ⊥ fun t => C (ix5 b s k g t) :=
  (reduce5 C 0xFF800000#32 reducesTo_S320x8x2x6x384_S320x8x2x6_d4 h_S_ b s k g).trans (by rw [Row.ofBits_bot])

/-- The new scores' maximum at one index. -/
theorem redN_apply (N : FVec Ideal S320x8x2x6x8 .f32) (b : Fin 320) (s : Fin 8) (k : Fin 2) (g : Fin 6) :
    redN N (ix4 b s k g) = Finset.univ.fold max ⊥ fun t => N (ix5 b s k g t) :=
  (reduce5 N 0xFF800000#32 reducesTo_S320x8x2x6x8_S320x8x2x6_d4 h_S_ b s k g).trans (by rw [Row.ofBits_bot])

/-- The larger of two maxima at one index. -/
theorem mxOf_apply (U W : FVec Ideal S320x8x2x6 .f32) (b : Fin 320) (s : Fin 8) (k : Fin 2) (g : Fin 6) :
    mxOf U W (ix5 b s k g 0) = max (U (ix4 b s k g)) (W (ix4 b s k g)) := by
  pointwise [mxOf]

/-- The maximum over cached and new scores at one index. -/
theorem mx_apply (C : FVec Ideal S320x8x2x6x384 .f32) (N : FVec Ideal S320x8x2x6x8 .f32)
    (b : Fin 320) (s : Fin 8) (k : Fin 2) (g : Fin 6) : mx C N (ix5 b s k g 0)
      = max (Finset.univ.fold max ⊥ fun t => C (ix5 b s k g t)) (Finset.univ.fold max ⊥ fun t => N (ix5 b s k g t)) := by
  unfold mx
  rw [mxOf_apply, redC_apply, redN_apply]

/-- The cached exponentials at one index. -/
theorem eC_apply (C : FVec Ideal S320x8x2x6x384 .f32) (M : FVec Ideal S320x8x2x6x1 .f32)
    (b : Fin 320) (s : Fin 8) (k : Fin 2) (g : Fin 6) (t : Fin 384) :
    eC C M (ix5 b s k g t) = Ideal.exp (C (ix5 b s k g t) - M (ix5 b s k g 0)) := by
  pointwise [eC]

/-- The new exponentials at one index. -/
theorem eN_apply (N : FVec Ideal S320x8x2x6x8 .f32) (M : FVec Ideal S320x8x2x6x1 .f32)
    (b : Fin 320) (s : Fin 8) (k : Fin 2) (g : Fin 6) (t : Fin 8) :
    eN N M (ix5 b s k g t) = Ideal.exp (N (ix5 b s k g t) - M (ix5 b s k g 0)) := by
  pointwise [eN]

/-- One over the sum of all exponentials, at one index. -/
theorem inv_apply (E : FVec Ideal S320x8x2x6x384 .f32) (E' : FVec Ideal S320x8x2x6x8 .f32)
    (b : Fin 320) (s : Fin 8) (k : Fin 2) (g : Fin 6) :
    inv E E' (ix5 b s k g 0) = Ideal.div 1 (∑ x, E (ix5 b s k g x) + ∑ x, E' (ix5 b s k g x)) := by
  pointwise [inv]

/-- The output at one index, from the exponentials and the inverse of their sum. -/
theorem out_apply (a2 : FVec Ideal S320x8x2x128 .bf16) (a5 : Vec Ideal S320x384x2x128 .i8) (a6 : FVec Ideal S320x384x2 .f32)
    (E : FVec Ideal S320x8x2x6x384 .f32) (E' : FVec Ideal S320x8x2x6x8 .f32) (I : FVec Ideal S320x8x2x6x1 .f32)
    (b : Fin 320) (s : Fin 8) (h : Fin 12) (d : Fin 128) (k : Fin 2) (g : Fin 6) (hk : k.val = h.val / 6) (hg : g.val = h.val % 6) :
    out a2 a5 a6 E E' I (ix4 b s h d) =
      ∑ x : Fin 384, FloatOps.sitofp (F := Ideal) .bf16 (BitVec.signExtend 32 (a5 (ix4 b x k d)))
          * (E (ix5 b s k g x) * I (ix5 b s k g 0) * a6 (ix3 b x k))
        + ∑ x : Fin 8, a2 (ix4 b x k d) * (E' (ix5 b s k g x) * I (ix5 b s k g 0)) := by
  have e1 : k = ⟨h.val / 6, by omega⟩ := Fin.ext hk
  have e2 : g = ⟨h.val % 6, by omega⟩ := Fin.ext hg
  rw [e1, e2]
  pointwise [out]

/-- The reference's output at an index is one row of the two-piece softmax. -/
theorem attn_apply (a0 : FVec Ideal S320x8x12x128 .bf16) (a1 a2 : FVec Ideal S320x8x2x128 .bf16) (a3 : Vec Ideal S320x384x2x128 .i8)
    (a4 : FVec Ideal S320x2x128 .f32) (a5 : Vec Ideal S320x384x2x128 .i8) (a6 : FVec Ideal S320x384x2 .f32) (a7 : Vec Ideal S320 .i32)
    (b : Fin 320) (s : Fin 8) (h : Fin 12) (d : Fin 128) (k : Fin 2) (hk : k.val = h.val / 6) :
    attn (sC a0 a3 a4 a7) (sN a0 a1) a2 a5 a6 (ix4 b s h d)
      = Row.refRow (cScore a0 a3 a4 a7 b s h k) (nScore a0 a1 b s h k) (fun t => a6 (ix3 b t k))
          (fun t => FloatOps.sitofp (F := Ideal) .bf16 (BitVec.signExtend 32 (a5 (ix4 b t k d)))) (fun j => a2 (ix4 b j k d)) := by
  have hh : (⟨k.val * 6 + (⟨h.val % 6, by omega⟩ : Fin 6).val, by omega⟩ : Fin 12) = h := Fin.ext (by simp only; omega)
  unfold attn
  rw [out_apply a2 a5 a6 _ _ _ b s h d k ⟨h.val % 6, by omega⟩ hk rfl]
  simp only [inv_apply, eC_apply, eN_apply, mx_apply, sC_apply, sN_apply, hh]
  rfl

end Cert.RefRead

end
-- ==== Proof.RefCodes.lean ====
/- UNTRUSTED. The reference's codes and scales, read at one index down to extended reals. -/
module

public import proofs.«01_k».proof.Proof.RefRead
public import proofs.«01_k».proof.Proof.Block

@[expose] public section

set_option maxRecDepth 16384

noncomputable section

namespace Cert.RefRead

open Idealize.ShloMosaic Idealize.ShloMosaic.TcCoe Idealize.ShloMosaic.Tactic Idealize.SL.Sem Cert.ReferenceIdeal Cert.ReferenceIdeal.Gen

variable {F : FTy → Type} [FloatOps F]

/-- A value's quotient by its scale, rounded, clipped to ±127 and converted by way of 32-bit integers. -/
def cut (x s : FVec F S320x8x2x128 .f32) : Vec F S320x8x2x128 .i8 :=
  trunci 8 (fptosi 32 (minimumf (broadcastInDim S320x8x2x128 ![] bcast_S_S320x8x2x128 (id (constant S_ .f32 0x42FE0000#32))) (maximumf (broadcastInDim S320x8x2x128 ![] bcast_S_S320x8x2x128 (id (constant S_ .f32 0xC2FE0000#32))) (Host.roundeven (Host.divf x s))))) natLt_8_32

/-- The new keys' codes at the cache's key scales. -/
def kq (a1 : FVec F S320x8x2x128 .bf16) (a4 : FVec F S320x2x128 .f32) : Vec F S320x8x2x128 .i8 :=
  cut (extf .f32 a1 bitsLt_bf16_f32) (broadcastInDim S320x8x2x128 ![0, 1, 2, 3] bcast_S320x1x2x128_S320x8x2x128_0_1_2_3 (broadcastInDim S320x1x2x128 ![0, 2, 3] bcast_S320x2x128_S320x1x2x128_0_2_3 a4))

/-- The new values' largest magnitudes. -/
def vMax (a2 : FVec F S320x8x2x128 .bf16) : FVec F S320x8x2 .f32 :=
  Host.reduce FloatOps.maximumf (Host.absf (extf .f32 a2 bitsLt_bf16_f32)) (constant S_ .f32 0xFF800000#32) reducesTo_S320x8x2x128_S320x8x2_d3 h_S_

/-- A scale of a magnitude: over 127, and one for zero. -/
def vSc (W : FVec F S320x8x2 .f32) : FVec F S320x8x2 .f32 :=
  select (cmpf .oeq W (broadcastInDim S320x8x2 ![] bcast_S_S320x8x2 (constant S_ .f32 0x00000000#32))) (broadcastInDim S320x8x2 ![] bcast_S_S320x8x2 (id (constant S_ .f32 0x3F800000#32))) (Host.divf W (broadcastInDim S320x8x2 ![] bcast_S_S320x8x2 (constant S_ .f32 0x42FE0000#32)))

/-- The new values' codes at given scales. -/
def vq (a2 : FVec F S320x8x2x128 .bf16) (W : FVec F S320x8x2 .f32) : Vec F S320x8x2x128 .i8 :=
  cut (extf .f32 a2 bitsLt_bf16_f32) (broadcastInDim S320x8x2x128 ![0, 1, 2, 3] bcast_S320x8x2x1_S320x8x2x128_0_1_2_3 (broadcastInDim S320x8x2x1 ![0, 1, 2] bcast_S320x8x2_S320x8x2x1_0_1_2 W))

/-- A clipped and converted quotient is the kernel's code of the value at the scale. -/
theorem cut_apply (x s : FVec Ideal S320x8x2x128 .f32) (i : S320x8x2x128.Idx) : cut x s i = Block.code (x i) (s i) := by
  refine Eq.trans ?_ (Row.code_cut (Ideal.liftRound Ideal.roundHalfEven (Ideal.div (x i) (s i)))).symm
  rw [← Row.ofBits_127, ← Row.ofBits_neg_127]
  rfl

/-- A new key's code at one index. -/
theorem kq_apply (a1 : FVec Ideal S320x8x2x128 .bf16) (a4 : FVec Ideal S320x2x128 .f32) (b : Fin 320) (s : Fin 8) (k : Fin 2) (d : Fin 128) :
    kq a1 a4 (ix4 b s k d) = Block.code (a1 (ix4 b s k d)) (a4 (ix3 b k d)) := by
  unfold kq
  rw [cut_apply]
  pointwise []

/-- A new value's largest magnitude, as a maximum over its width. -/
theorem vMax_apply (a2 : FVec Ideal S320x8x2x128 .bf16) (b : Fin 320) (s : Fin 8) (k : Fin 2) :
    vMax a2 (ix3 b s k) = Finset.univ.fold max ⊥ fun d => FloatOps.absf (F := Ideal) (φ := .f32) (a2 (ix4 b s k d)) :=
  (reduce4 _ 0xFF800000#32 reducesTo_S320x8x2x128_S320x8x2_d3 h_S_ b s k).trans (by rw [Row.ofBits_bot]; rfl)

/-- A new value's scale is the kernel's. -/
theorem vSc_apply (a2 : FVec Ideal S320x8x2x128 .bf16) (b : Fin 320) (s : Fin 8) (k : Fin 2) :
    vSc (vMax a2) (ix3 b s k) = Block.vScale fun d => a2 (ix4 b s k d) := by
  unfold Block.vScale
  rw [← vMax_apply]
  generalize vMax a2 = W
  pointwise [vSc]
  rw [show (id (constant (F := Ideal) S_ .f32 0x3F800000#32)) ix0 = 1 from Ideal.ofBits_one_f32, Row.ofBits_127]

/-- A new value's code at one index. -/
theorem vq_apply (a2 : FVec Ideal S320x8x2x128 .bf16) (b : Fin 320) (s : Fin 8) (k : Fin 2) (d : Fin 128) :
    vq a2 (vSc (vMax a2)) (ix4 b s k d) = Block.code (a2 (ix4 b s k d)) (Block.vScale fun d => a2 (ix4 b s k d)) := by
  rw [← vSc_apply]
  generalize vSc (vMax a2) = W
  unfold vq
  rw [cut_apply]
  pointwise []

/-- The reference's run: its four results are the stages above of the arguments, which end unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v94) = attn (sC (m ((c.tc : Thread nD τ).loc main_arg0)) (m ((c.tc : Thread nD τ).loc main_arg3)) (m ((c.tc : Thread nD τ).loc main_arg4)) (m ((c.tc : Thread nD τ).loc main_arg7))) (sN (m ((c.tc : Thread nD τ).loc main_arg0)) (m ((c.tc : Thread nD τ).loc main_arg1))) (m ((c.tc : Thread nD τ).loc main_arg2)) (m ((c.tc : Thread nD τ).loc main_arg5)) (m ((c.tc : Thread nD τ).loc main_arg6))
      ∧ r.2.mem ((c.tc : Thread nD τ).loc main_v8_0) = kq (m ((c.tc : Thread nD τ).loc main_arg1)) (m ((c.tc : Thread nD τ).loc main_arg4))
      ∧ r.2.mem ((c.tc : Thread nD τ).loc main_v24_0) = vq (m ((c.tc : Thread nD τ).loc main_arg2)) (vSc (vMax (m ((c.tc : Thread nD τ).loc main_arg2))))
      ∧ r.2.mem ((c.tc : Thread nD τ).loc main_v24_1) = vSc (vMax (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run _ _ _).mono (fun r h c => ⟨(h c).1.trans (res_eq m c), (h c).2.1, (h c).2.2.1, (h c).2.2.2.1, (h c).2.2.2.2⟩) (Value.run m ρ)

end Cert.RefRead

end
-- ==== Proof.KernelValue.lean ====
/- UNTRUSTED. The kernel's four results after the host operations around the pipeline, as the reference's stages of the arguments. -/
module

public import proofs.«01_k».proof.Proof.Arrays
public import proofs.«01_k».proof.Proof.Attn
public import proofs.«01_k».proof.Proof.RefCodes
public import Idealize.ShloMosaic.Lib.Claim

@[expose] public section

set_option maxRecDepth 16384

noncomputable section

namespace Cert.Arrays

open Idealize.ShloMosaic Idealize.ShloMosaic.TcCoe Idealize.ShloMosaic.Tactic Idealize.SL.Sem Cert.KernelIdeal Cert.KernelIdeal.Gen

variable (m : (ℓ : Loc nD τ sig) → Buf (Elt Ideal) ℓ)

/-- The queries as the pipeline takes them: row `r` is head `r / 8` and position `r % 8`. -/
theorem v1_eq (c : Dev nD) (b : Fin 320) (r : Fin 96) (x : Fin 128) :
    (V m c main_v1 : Vec Ideal S320x96x128 .bf16) (ix3 b r x) = (m ((c : Thread nD τ).loc main_arg0) : Vec Ideal S320x8x12x128 .bf16) (ix4 b ⟨r.val % 8, by omega⟩ ⟨r.val / 8, by omega⟩ x) := by
  unfold V V0
  simp only [hostOps0, List.flatten_cons, List.flatten_nil, List.append_nil]
  after_results
  pointwise []

/-- The cached keys' codes as the pipeline takes them. -/
theorem v2_eq (c : Dev nD) (b : Fin 320) (k : Fin 2) (t : Fin 384) (x : Fin 128) :
    (V m c main_v2 : Vec Ideal S320x2x384x128 .i8) (ix4 b k t x) = (m ((c : Thread nD τ).loc main_arg3) : Vec Ideal S320x384x2x128 .i8) (ix4 b t k x) := by
  unfold V V0
  simp only [hostOps0, List.flatten_cons, List.flatten_nil, List.append_nil]
  after_results
  pointwise []

/-- The cached values' codes as the pipeline takes them. -/
theorem v3_eq (c : Dev nD) (b : Fin 320) (k : Fin 2) (t : Fin 384) (x : Fin 128) :
    (V m c main_v3 : Vec Ideal S320x2x384x128 .i8) (ix4 b k t x) = (m ((c : Thread nD τ).loc main_arg5) : Vec Ideal S320x384x2x128 .i8) (ix4 b t k x) := by
  unfold V V0
  simp only [hostOps0, List.flatten_cons, List.flatten_nil, List.append_nil]
  after_results
  pointwise []

/-- The cached values' scales as the pipeline takes them. -/
theorem v4_eq (c : Dev nD) (b : Fin 320) (k : Fin 2) (t : Fin 384) :
    (V m c main_v4 : Vec Ideal S320x2x384 .f32) (ix3 b k t) = (m ((c : Thread nD τ).loc main_arg6) : Vec Ideal S320x384x2 .f32) (ix3 b t k) := by
  unfold V V0
  simp only [hostOps0, List.flatten_cons, List.flatten_nil, List.append_nil]
  after_results
  pointwise []

/-- The first result is the output array's heads unfolded and moved behind the positions. -/
theorem tail7 (hO : Ok m) (c : Dev nD) (X : Vec Ideal S320x96x128 .bf16) (hX : (dats m hO 0 c).arrAt 7 (cfgM m hO).N = X) :
    Pipeline.afterTail pcfgs (fun _ => adm m hO) (dats m hO) 0 (V0 m) [hostOps1] c main_v7 =
     (transpose S320x8x12x128 [0, 2, 1, 3] (shapeCast S320x12x8x128 X shapeCasts_S320x96x128_S320x12x8x128) transposes_S320x12x8x128_S320x8x12x128_0_2_1_3 : Vec Ideal S320x8x12x128 .bf16) := by
  unfold Pipeline.afterTail
  simp only [hostOps1, List.flatten_cons, List.flatten_nil, List.append_nil]
  after_results
  exact congrArg (fun Y : Vec Ideal S320x96x128 .bf16 => (transpose S320x8x12x128 [0, 2, 1, 3] (shapeCast S320x12x8x128 Y shapeCasts_S320x96x128_S320x12x8x128) transposes_S320x12x8x128_S320x8x12x128_0_2_1_3 : Vec Ideal S320x8x12x128 .bf16))
    ((Pipeline.withArrays_arr spec0 (launch0 (F := Ideal)).win.arr_inj c (V0 m c) (fun w => (dats m hO 0 c).arrAt w (cfgM m hO).N) 7).trans hX)

/-- The second result is its array with the heads behind the positions. -/
theorem tail8 (hO : Ok m) (c : Dev nD) (X : Vec Ideal S320x2x8x128 .i8) (hX : (dats m hO 0 c).arrAt 8 (cfgM m hO).N = X) :
    Pipeline.afterTail pcfgs (fun _ => adm m hO) (dats m hO) 0 (V0 m) [hostOps1] c main_v8 = (transpose S320x8x2x128 [0, 2, 1, 3] X transposes_S320x2x8x128_S320x8x2x128_0_2_1_3 : Vec Ideal S320x8x2x128 .i8) := by
  unfold Pipeline.afterTail
  simp only [hostOps1, List.flatten_cons, List.flatten_nil, List.append_nil]
  after_results
  exact congrArg (fun Y : Vec Ideal S320x2x8x128 .i8 => (transpose S320x8x2x128 [0, 2, 1, 3] Y transposes_S320x2x8x128_S320x8x2x128_0_2_1_3 : Vec Ideal S320x8x2x128 .i8))
    ((Pipeline.withArrays_arr spec0 (launch0 (F := Ideal)).win.arr_inj c (V0 m c) (fun w => (dats m hO 0 c).arrAt w (cfgM m hO).N) 8).trans hX)

/-- The third result is its array with the heads behind the positions. -/
theorem tail9 (hO : Ok m) (c : Dev nD) (X : Vec Ideal S320x2x8x128 .i8) (hX : (dats m hO 0 c).arrAt 9 (cfgM m hO).N = X) :
    Pipeline.afterTail pcfgs (fun _ => adm m hO) (dats m hO) 0 (V0 m) [hostOps1] c main_v9 = (transpose S320x8x2x128 [0, 2, 1, 3] X transposes_S320x2x8x128_S320x8x2x128_0_2_1_3 : Vec Ideal S320x8x2x128 .i8) := by
  unfold Pipeline.afterTail
  simp only [hostOps1, List.flatten_cons, List.flatten_nil, List.append_nil]
  after_results
  exact congrArg (fun Y : Vec Ideal S320x2x8x128 .i8 => (transpose S320x8x2x128 [0, 2, 1, 3] Y transposes_S320x2x8x128_S320x8x2x128_0_2_1_3 : Vec Ideal S320x8x2x128 .i8))
    ((Pipeline.withArrays_arr spec0 (launch0 (F := Ideal)).win.arr_inj c (V0 m c) (fun w => (dats m hO 0 c).arrAt w (cfgM m hO).N) 9).trans hX)

/-- The fourth result is its array's first lane with the heads behind the positions. -/
theorem tail10 (hO : Ok m) (c : Dev nD) (X : Vec Ideal S320x2x8x128 .f32) (hX : (dats m hO 0 c).arrAt 10 (cfgM m hO).N = X) :
    Pipeline.afterTail pcfgs (fun _ => adm m hO) (dats m hO) 0 (V0 m) [hostOps1] c main_v12 = (transpose S320x8x2 [0, 2, 1] (shapeCast S320x2x8 (extractStridedSlice S320x2x8x1 ![0, 0, 0, 0] X slices_S320x2x8x128_S320x2x8x1_0_0_0_0) shapeCasts_S320x2x8x1_S320x2x8) transposes_S320x2x8_S320x8x2_0_2_1 : Vec Ideal S320x8x2 .f32) := by
  unfold Pipeline.afterTail
  simp only [hostOps1, List.flatten_cons, List.flatten_nil, List.append_nil]
  after_results
  exact congrArg (fun Y : Vec Ideal S320x2x8x128 .f32 => (transpose S320x8x2 [0, 2, 1] (shapeCast S320x2x8 (extractStridedSlice S320x2x8x1 ![0, 0, 0, 0] Y slices_S320x2x8x128_S320x2x8x1_0_0_0_0) shapeCasts_S320x2x8x1_S320x2x8) transposes_S320x2x8_S320x8x2_0_2_1 : Vec Ideal S320x8x2 .f32))
    ((Pipeline.withArrays_arr spec0 (launch0 (F := Ideal)).win.arr_inj c (V0 m c) (fun w => (dats m hO 0 c).arrAt w (cfgM m hO).N) 10).trans hX)

/-- The output array's entry for a head and a position is the reference's attention there. -/
theorem A7_eq (a0 : FVec Ideal S320x8x12x128 .bf16) (a1 a2 : FVec Ideal S320x8x2x128 .bf16) (a3 : Vec Ideal S320x384x2x128 .i8)
    (a4 : FVec Ideal S320x2x128 .f32) (a5 : Vec Ideal S320x384x2x128 .i8) (a6 : FVec Ideal S320x384x2 .f32) (a7 : Vec Ideal S320 .i32)
    (X0 : Vec Ideal S320x96x128 .bf16) (X3 X5 : Vec Ideal S320x2x384x128 .i8) (X6 : Vec Ideal S320x2x384 .f32)
    (h0 : ∀ (b : Fin 320) (r : Fin 96) (x : Fin 128), X0 (ix3 b r x) = a0 (ix4 b ⟨r.val % 8, by omega⟩ ⟨r.val / 8, by omega⟩ x))
    (h3 : ∀ (b : Fin 320) (k : Fin 2) (t : Fin 384) (x : Fin 128), X3 (ix4 b k t x) = a3 (ix4 b t k x))
    (h5 : ∀ (b : Fin 320) (k : Fin 2) (t : Fin 384) (x : Fin 128), X5 (ix4 b k t x) = a5 (ix4 b t k x))
    (h6 : ∀ (b : Fin 320) (k : Fin 2) (t : Fin 384), X6 (ix3 b k t) = a6 (ix3 b t k))
    (b : Fin 320) (s : Fin 8) (h : Fin 12) (d : Fin 128) (r : Fin 96) (hr : r.val = 8 * h.val + s.val) (k : Fin 2) (hk : k.val = r.val / 48) :
    A7 X0 a1 a2 X3 a4 X5 X6 a7 b k r d = RefRead.attn (RefRead.sC a0 a3 a4 a7) (RefRead.sN a0 a1) a2 a5 a6 (ix4 b s h d) := by
  rw [RefRead.attn_apply a0 a1 a2 a3 a4 a5 a6 a7 b s h d k (by omega)]
  have hs : (⟨r.val % 8, by omega⟩ : Fin 8) = s := Fin.ext (by simp only; omega)
  have hh : (⟨r.val / 8, by omega⟩ : Fin 12) = h := Fin.ext (by simp only; omega)
  have hm : r.val % 8 = s.val := by omega
  unfold A7 RefRead.cScore RefRead.nScore
  simp only [h0 b r, h3 b k, h5 b k, h6 b k, hs, hh, hm, Attn.sitofp_ext]

/-- The first result is the reference's attention, for lengths the kernel's counter can hold. -/
theorem res7 (hO : Ok m) (c : Dev nD) (hn : ∀ p : Fin 320, ((m ((c.tc : Thread nD τ).loc main_arg7) : Vec Ideal S320 .i32) (ix1 p)).toInt ≤ 2147483631) :
    Pipeline.afterTail pcfgs (fun _ => adm m hO) (dats m hO) 0 (V0 m) [hostOps1] c main_v7
      = (RefRead.attn (RefRead.sC (m ((c.tc : Thread nD τ).loc main_arg0)) (m ((c.tc : Thread nD τ).loc main_arg3)) (m ((c.tc : Thread nD τ).loc main_arg4)) (m ((c.tc : Thread nD τ).loc main_arg7))) (RefRead.sN (m ((c.tc : Thread nD τ).loc main_arg0)) (m ((c.tc : Thread nD τ).loc main_arg1))) (m ((c.tc : Thread nD τ).loc main_arg2)) (m ((c.tc : Thread nD τ).loc main_arg5)) (m ((c.tc : Thread nD τ).loc main_arg6)) : Vec Ideal S320x8x12x128 .bf16) := by
  refine (tail7 m hO c _ (arr7 m hO c _ ((V_pre m c 0).symm.trans (V_main_arg7 m c)) hn)).trans ?_
  rw [V_main_arg1, V_main_arg2, V_main_arg4]
  funext i
  idx_vars i
  have hp := A7_eq (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) _ _ _ _ (v1_eq m c) (v2_eq m c) (v3_eq m c) (v4_eq m c)
    i0 i1 i2 i3 ⟨i2.val * 8 + i1.val, by omega⟩ (by simp only; omega) ⟨(i2.val * 8 + i1.val) / 48, by omega⟩ rfl
  refine Eq.trans ?_ hp
  pointwise []

/-- The second result is the new keys' codes. -/
theorem res8 (hO : Ok m) (c : Dev nD) :
    Pipeline.afterTail pcfgs (fun _ => adm m hO) (dats m hO) 0 (V0 m) [hostOps1] c main_v8 = (RefRead.kq (m ((c.tc : Thread nD τ).loc main_arg1)) (m ((c.tc : Thread nD τ).loc main_arg4)) : Vec Ideal S320x8x2x128 .i8) := by
  refine (tail8 m hO c _ (arr8 m hO c)).trans ?_
  rw [V_main_arg1, V_main_arg4]
  funext i
  idx_vars i
  rw [RefRead.kq_apply]
  pointwise [A8]

/-- The third result is the new values' codes at their own scales. -/
theorem res9 (hO : Ok m) (c : Dev nD) :
    Pipeline.afterTail pcfgs (fun _ => adm m hO) (dats m hO) 0 (V0 m) [hostOps1] c main_v9 = (RefRead.vq (m ((c.tc : Thread nD τ).loc main_arg2)) (RefRead.vSc (RefRead.vMax (F := Ideal) (m ((c.tc : Thread nD τ).loc main_arg2)))) : Vec Ideal S320x8x2x128 .i8) := by
  refine (tail9 m hO c _ (arr9 m hO c)).trans ?_
  rw [V_main_arg2]
  funext i
  idx_vars i
  rw [RefRead.vq_apply]
  pointwise [A9]

/-- The fourth result is the new values' scales. -/
theorem res10 (hO : Ok m) (c : Dev nD) :
    Pipeline.afterTail pcfgs (fun _ => adm m hO) (dats m hO) 0 (V0 m) [hostOps1] c main_v12 = (RefRead.vSc (RefRead.vMax (F := Ideal) (m ((c.tc : Thread nD τ).loc main_arg2))) : Vec Ideal S320x8x2 .f32) := by
  refine (tail10 m hO c _ (arr10 m hO c)).trans ?_
  rw [V_main_arg2]
  funext i
  idx_vars i
  rw [RefRead.vSc_apply]
  pointwise [A10]

/-- The kernel's run: the four results are the reference's stages of the arguments, which end unchanged. -/
theorem run (ρ : Dev nD → PrngReg) (hn : ∀ (c : Dev nD) (p : Fin 320), ((m ((c.tc : Thread nD τ).loc main_arg7) : Vec Ideal S320 .i32) (ix1 p)).toInt ≤ 2147483631) :
    θ_run (defs (F := Ideal)) (onTc (τ := τ) (main (F := Ideal))) ⟨m, fun _ => 0, ρ⟩ fun r => ∀ c : Dev nD,
      r.2.mem ((c.tc : Thread nD τ).loc main_v7) = (RefRead.attn (RefRead.sC (m ((c.tc : Thread nD τ).loc main_arg0)) (m ((c.tc : Thread nD τ).loc main_arg3)) (m ((c.tc : Thread nD τ).loc main_arg4)) (m ((c.tc : Thread nD τ).loc main_arg7))) (RefRead.sN (m ((c.tc : Thread nD τ).loc main_arg0)) (m ((c.tc : Thread nD τ).loc main_arg1))) (m ((c.tc : Thread nD τ).loc main_arg2)) (m ((c.tc : Thread nD τ).loc main_arg5)) (m ((c.tc : Thread nD τ).loc main_arg6)) : Vec Ideal S320x8x12x128 .bf16)
      ∧ r.2.mem ((c.tc : Thread nD τ).loc main_v8) = (RefRead.kq (m ((c.tc : Thread nD τ).loc main_arg1)) (m ((c.tc : Thread nD τ).loc main_arg4)) : Vec Ideal S320x8x2x128 .i8)
      ∧ r.2.mem ((c.tc : Thread nD τ).loc main_v9) = (RefRead.vq (m ((c.tc : Thread nD τ).loc main_arg2)) (RefRead.vSc (RefRead.vMax (F := Ideal) (m ((c.tc : Thread nD τ).loc main_arg2)))) : Vec Ideal S320x8x2x128 .i8)
      ∧ r.2.mem ((c.tc : Thread nD τ).loc main_v12) = (RefRead.vSc (RefRead.vMax (F := Ideal) (m ((c.tc : Thread nD τ).loc main_arg2))) : Vec Ideal S320x8x2 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run _ _ _).mono (fun r h c => ⟨
      ((h.1 c).2 main_v7 (by decide : main_v7 ∈ Pipeline.restRefs sig spec0)).trans (res7 m trivial c (hn c)),
      ((h.1 c).2 main_v8 (by decide : main_v8 ∈ Pipeline.restRefs sig spec0)).trans (res8 m trivial c),
      ((h.1 c).2 main_v9 (by decide : main_v9 ∈ Pipeline.restRefs sig spec0)).trans (res9 m trivial c),
      ((h.1 c).2 main_v12 (by decide : main_v12 ∈ Pipeline.restRefs sig spec0)).trans (res10 m trivial c),
      h.2 c⟩)
    (θ_run_and (run_main m ρ trivial) (unchanged m ρ trivial))

end Cert.Arrays

end
-- ==== Proof.lean ====
/- UNTRUSTED. The proof of `Cert.Claim`. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.KernelValue
public import Idealize.ShloMosaic.Lib.Quiescent
public import Idealize.ShloMosaic.Lib.Bf16Pair

@[expose] public section

noncomputable section

namespace Cert.Proof

open Idealize.ShloMosaic Idealize.SL.Sem

/-- The kernel runs and leaves its arguments and its semaphores as they were. -/
theorem frame_p : Cert.quiescent_Kernel := fun m ρ _ => Cert.Kernel.Gen.frame m ρ trivial

/-- So does the kernel's idealization. -/
theorem frame_pi : Cert.quiescent_KernelIdeal := fun m ρ _ => Cert.KernelIdeal.Gen.frame m ρ trivial

/-- So does the reference, read on extended reals. -/
theorem frame_ri : Cert.quiescent_ReferenceIdeal := fun m ρ _ =>
  (θ_run Cert.ReferenceIdeal.defs _ _).mono
    (fun r h => ⟨fun c => (h c).2.2.2.2, sem_eq_zero_of_no_sems (by decide) r.2⟩)
    (Cert.ReferenceIdeal.Value.run (F := Ideal) m ρ)

/-- Every rewrite of the idealization is one of the library's: a word carrying two bf16 vectors, and the score factor
named `(√128)⁻¹ (log 2)⁻¹`. -/
theorem preserves : Cert.preserves_Kernel_KernelIdeal :=
  ⟨IdealRules.bf16_pair.statement _ _, IdealRules.bf16_pair.statement _ _,
    IdealRules.named_const.statement Cert.KernelIdeal.κ "log2e_over_sqrt_d" .f32 0x3E0293EE#32
      (((Real.sqrt 128)⁻¹ * (Real.log 2)⁻¹ : ℝ) : EReal) rfl⟩

/-- The precondition's one side condition: a scalar broadcasts over the lengths. -/
instance facts_pre : Cert.Pre_len_fits.Facts := ⟨by decide⟩

/-- A signed comparison that came out true. -/
theorem le_of_sle (a b : BitVec 32) (h : IntOp.cmpi .sle a b = 1#1) : a.toInt ≤ b.toInt := by
  by_contra hc
  simp [IntOp.cmpi, BitVec.sle, hc] at h

/-- The precondition read at one length: it is at most `2147483631`. -/
theorem len_le (m : (ℓ : Loc Cert.KernelIdeal.nD Cert.KernelIdeal.τ Cert.KernelIdeal.sig) → Buf (Elt Ideal) ℓ) (hpre : Cert.Pre_KernelIdeal_len_fits m)
    (c : Dev Cert.KernelIdeal.nD) (p : Fin 320) :
    ((m ((c.tc : Thread Cert.KernelIdeal.nD Cert.KernelIdeal.τ).loc Cert.KernelIdeal.main_arg7) : Vec Ideal Cert.KernelIdeal.S320 .i32) (ix1 p)).toInt ≤ 2147483631 := by
  exact le_of_sle _ 2147483631#32 (congrFun (hpre c) (ix1 p))

/-- On extended reals, at lengths the kernel's 32-bit counter can hold, the kernel's four results are the reference's. -/
theorem algebraic : Cert.algebraic_KernelIdeal_ReferenceIdeal_pre_len_fits := by
  intro m g m' g' hpre hagree
  refine ⟨_, _, _, _, Cert.Arrays.run m g (len_le m hpre), (θ_run _ _ _).mono (fun r h c => ?_) (Cert.RefRead.run (F := Ideal) m' g')⟩
  obtain ⟨h0, h1, h2, h3, h4, h5, h6, h7⟩ := hagree c
  have hc := h c
  rw [h0, h1, h2, h3, h4, h5, h6, h7] at hc ⊢
  exact hc

/-- The certificate's claim. -/
theorem claim : Cert.Claim :=
  ⟨Cert.Kernel.Gen.facts, Cert.KernelIdeal.Gen.facts, Cert.ReferenceIdeal.Gen.facts, facts_pre,
    frame_p, frame_pi, fun m ρ _ => frame_pi m ρ trivial, frame_ri, fun m ρ _ => frame_ri m ρ trivial, preserves, algebraic⟩

end Cert.Proof

end
